-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S64x32768 : Shape := ⟨2, ![64, 32768]⟩
abbrev S_ : Shape := ⟨0, ![]⟩

class Facts : Prop where
  bcast_S_S64x32768 : S_.BroadcastsInDim S64x32768 (![] : Fin 0 → Fin S64x32768.rank)

variable [Facts]

def fn {F : FTy → Type} [FloatOps F] (main_arg0 : FVec F S64x32768 .f32) : IVec S64x32768 1 :=
  let main_v0 : FVec F S64x32768 .f32 := Host.absf main_arg0
  let main_cst : FVec F S_ .f32 := constant S_ .f32 0x7F800000#32
  let main_v1 : FVec F S64x32768 .f32 := broadcastInDim S64x32768 ![] bcast_S_S64x32768 main_cst
  let main_v2 : IVec S64x32768 1 := cmpf .olt main_v0 main_v1
  main_v2
-- ==== Kernel.lean ====
abbrev S64x32768 : Shape := ⟨2, ![64, 32768]⟩
abbrev S64x16 : Shape := ⟨2, ![64, 16]⟩
abbrev S64 : Shape := ⟨1, ![64]⟩
abbrev S64x1 : Shape := ⟨2, ![64, 1]⟩
abbrev S64x1024 : Shape := ⟨2, ![64, 1024]⟩
abbrev S10x64x32768 : Shape := ⟨3, ![10, 64, 32768]⟩
abbrev S8x32768 : Shape := ⟨2, ![8, 32768]⟩
abbrev S10x8x32768 : Shape := ⟨3, ![10, 8, 32768]⟩
abbrev S8x1 : Shape := ⟨2, ![8, 1]⟩
abbrev S1x1 : Shape := ⟨2, ![1, 1]⟩
abbrev S1x8x32768 : Shape := ⟨3, ![1, 8, 32768]⟩
abbrev S64x10x32768 : Shape := ⟨3, ![64, 10, 32768]⟩
abbrev S64x10 : Shape := ⟨2, ![64, 10]⟩
abbrev S1x64x10 : Shape := ⟨3, ![1, 64, 10]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 11
  | .smem => 2
  | _ => 0

abbrev bufTy : (tb : Table) → Fin (tcTables nBuf tb) → BufTy
  | .hbm, ⟨0, _⟩ => ⟨S64x32768, .f32⟩
  | .hbm, ⟨1, _⟩ => ⟨S64x16, .i32⟩
  | .hbm, ⟨2, _⟩ => ⟨S64x16, .i32⟩
  | .hbm, ⟨3, _⟩ => ⟨S64x16, .f32⟩
  | .hbm, ⟨4, _⟩ => ⟨S10x64x32768, .f32⟩
  | .hbm, ⟨5, _⟩ => ⟨S64x10x32768, .f32⟩
  | .hbm, ⟨6, _⟩ => ⟨S64x10, .f32⟩
  | .hbm, ⟨7, _⟩ => ⟨S64x10, .f32⟩
  | .hbm, ⟨8, _⟩ => ⟨S1x1, .f32⟩
  | .hbm, ⟨9, _⟩ => ⟨S_, .f32⟩
  | .local _ .vmem, ⟨0, _⟩ => ⟨S64x32768, .f32⟩
  | .local _ .vmem, ⟨1, _⟩ => ⟨S64x16, .i32⟩
  | .local _ .vmem, ⟨2, _⟩ => ⟨S64x16, .i32⟩
  | .local _ .vmem, ⟨3, _⟩ => ⟨S64x16, .f32⟩
  | .local _ .vmem, ⟨4, _⟩ => ⟨S8x32768, .f32⟩
  | .local _ .vmem, ⟨5, _⟩ => ⟨S8x32768, .f32⟩
  | .local _ .vmem, ⟨6, _⟩ => ⟨S10x8x32768, .f32⟩
  | .local _ .vmem, ⟨7, _⟩ => ⟨S10x8x32768, .f32⟩
  | .local _ .vmem, ⟨8, _⟩ => ⟨S64x10, .f32⟩
  | .local _ .vmem, ⟨9, _⟩ => ⟨S64x10, .f32⟩
  | .local _ .vmem, ⟨10, _⟩ => ⟨S1x1, .f32⟩
  | .local _ .smem, ⟨0, _⟩ => ⟨S64x16, .i32⟩
  | .local _ .smem, ⟨1, _⟩ => ⟨S64x16, .i32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := .none

abbrev stage0_0 : Fin 1 → Memref sig .tc .vmem S64x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def k1_off1 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v14 : Index := Scalar.indexCast v13
  let c0_5 : Index := 0#32
  ![v14.toNat, 0]
def k1_off2 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v22 : Index := Scalar.indexCast v13
  let c1 : Index := 1#32
  ![v22.toNat, 1]
def k1_off3 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v28 : Index := Scalar.indexCast v13
  let c2 : Index := 2#32
  ![v28.toNat, 2]
def k1_off4 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v34 : Index := Scalar.indexCast v13
  let c3 : Index := 3#32
  ![v34.toNat, 3]
def k1_off5 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v40 : Index := Scalar.indexCast v13
  let c4 : Index := 4#32
  ![v40.toNat, 4]
def k1_off6 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v46 : Index := Scalar.indexCast v13
  let c5 : Index := 5#32
  ![v46.toNat, 5]
def k1_off7 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v52 : Index := Scalar.indexCast v13
  let c6 : Index := 6#32
  ![v52.toNat, 6]
def k1_off8 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v58 : Index := Scalar.indexCast v13
  let c7 : Index := 7#32
  ![v58.toNat, 7]
def k1_off9 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v64 : Index := Scalar.indexCast v13
  let c8 : Index := 8#32
  ![v64.toNat, 8]
def k1_off10 (i : grid1.Coords) (c0_i32_4 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32_4
  let v70 : Index := Scalar.indexCast v13
  let c9 : Index := 9#32
  ![v70.toNat, 9]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .smem S64x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S64x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10x8x32768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S64x10 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S64x32768 : Shape := ⟨2, ![64, 32768]⟩
abbrev S_ : Shape := ⟨0, ![]⟩
abbrev S64x10 : Shape := ⟨2, ![64, 10]⟩
abbrev S1024 : Shape := ⟨1, ![1024]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S10x1024 : Shape := ⟨2, ![10, 1024]⟩
abbrev S64x1024 : Shape := ⟨2, ![64, 1024]⟩
abbrev S64x10x1 : Shape := ⟨3, ![64, 10, 1]⟩
abbrev S64x10x10 : Shape := ⟨3, ![64, 10, 10]⟩
abbrev S64 : Shape := ⟨1, ![64]⟩
abbrev S64x1x1 : Shape := ⟨3, ![64, 1, 1]⟩
abbrev S1x10x1 : Shape := ⟨3, ![1, 10, 1]⟩
abbrev S64x1x10 : Shape := ⟨3, ![64, 1, 10]⟩
abbrev S64x10x32768 : Shape := ⟨3, ![64, 10, 32768]⟩
abbrev S64x10x10x1 : Shape := ⟨4, ![64, 10, 10, 1]⟩
abbrev S64x10x10x3 : Shape := ⟨4, ![64, 10, 10, 3]⟩
abbrev S64x1x32768 : Shape := ⟨3, ![64, 1, 32768]⟩
abbrev S64x1 : Shape := ⟨2, ![64, 1]⟩
abbrev S1 : Shape := ⟨1, ![1]⟩
abbrev S1x1x1 : Shape := ⟨3, ![1, 1, 1]⟩
abbrev S640 : Shape := ⟨1, ![640]⟩

abbrev nBuf : Space → Nat
  | .hbm => 160
  | .vmem => 0
  | .smem => 0
  | _ => 0

abbrev hbmTy0_0 (i : Nat) : BufTy := match i % 128 with
  | 0 => ⟨S64x32768, .f32⟩
  | 1 => ⟨S64x32768, .f32⟩
  | 2 => ⟨S_, .f32⟩
  | 3 => ⟨S64x32768, .f32⟩
  | 4 => ⟨S64x32768, .i1⟩
  | 5 => ⟨S64x32768, .f32⟩
  | 6 => ⟨S64x32768, .f32⟩
  | 7 => ⟨S64x10, .f32⟩
  | 8 => ⟨S64x10, .i32⟩
  | 9 => ⟨S64x10, .f32⟩
  | 10 => ⟨S1024, .i32⟩
  | 11 => ⟨S1024x1, .i32⟩
  | 12 => ⟨S10, .i32⟩
  | 13 => ⟨S1x10, .i32⟩
  | 14 => ⟨S1024x10, .i32⟩
  | 15 => ⟨S1024x10, .i32⟩
  | 16 => ⟨S1024x10, .i32⟩
  | 17 => ⟨S_, .i32⟩
  | 18 => ⟨S1024x10, .i32⟩
  | 19 => ⟨S1024x10, .i32⟩
  | 20 => ⟨S1024x10, .f32⟩
  | 21 => ⟨S10x1024, .f32⟩
  | 22 => ⟨S64x1024, .f32⟩
  | 23 => ⟨S64x1024, .f32⟩
  | 24 => ⟨S64x10, .f32⟩
  | 25 => ⟨S64x10, .i32⟩
  | 26 => ⟨S_, .i32⟩
  | 27 => ⟨S64x10, .i32⟩
  | 28 => ⟨S64x10, .i1⟩
  | 29 => ⟨S_, .i32⟩
  | 30 => ⟨S64x10, .i32⟩
  | 31 => ⟨S64x10, .i32⟩
  | 32 => ⟨S64x10, .i32⟩
  | 33 => ⟨S64x10x1, .i32⟩
  | 34 => ⟨S64x10x10, .f32⟩
  | 35 => ⟨S64, .i32⟩
  | 36 => ⟨S64x1x1, .i32⟩
  | 37 => ⟨S10, .i32⟩
  | 38 => ⟨S1x10x1, .i32⟩
  | 39 => ⟨S64x1x10, .i32⟩
  | 40 => ⟨S_, .f32⟩
  | 41 => ⟨S64x10x32768, .f32⟩
  | 42 => ⟨S_, .i32⟩
  | 43 => ⟨S64x1x1, .i32⟩
  | 44 => ⟨S64x1x1, .i1⟩
  | 45 => ⟨S_, .i32⟩
  | 46 => ⟨S64x1x1, .i32⟩
  | 47 => ⟨S64x1x1, .i32⟩
  | 48 => ⟨S64x1x1, .i32⟩
  | 49 => ⟨S_, .i32⟩
  | 50 => ⟨S1x10x1, .i32⟩
  | 51 => ⟨S1x10x1, .i1⟩
  | 52 => ⟨S_, .i32⟩
  | 53 => ⟨S1x10x1, .i32⟩
  | 54 => ⟨S1x10x1, .i32⟩
  | 55 => ⟨S1x10x1, .i32⟩
  | 56 => ⟨S_, .i32⟩
  | 57 => ⟨S64x1x10, .i32⟩
  | 58 => ⟨S64x1x10, .i1⟩
  | 59 => ⟨S_, .i32⟩
  | 60 => ⟨S64x1x10, .i32⟩
  | 61 => ⟨S64x1x10, .i32⟩
  | 62 => ⟨S64x1x10, .i32⟩
  | 63 => ⟨S64x10x10, .i32⟩
  | 64 => ⟨S64x10x10, .i32⟩
  | 65 => ⟨S64x10x10, .i32⟩
  | 66 => ⟨S64x10x10x1, .i32⟩
  | 67 => ⟨S64x10x10x1, .i32⟩
  | 68 => ⟨S64x10x10x1, .i32⟩
  | 69 => ⟨S64x10x10x3, .i32⟩
  | 70 => ⟨S64x10x32768, .f32⟩
  | 71 => ⟨S64x1x32768, .f32⟩
  | 72 => ⟨S64x10x32768, .f32⟩
  | 73 => ⟨S_, .f32⟩
  | 74 => ⟨S64x10x32768, .f32⟩
  | 75 => ⟨S64x10x32768, .i1⟩
  | 76 => ⟨S_, .f32⟩
  | 77 => ⟨S64x10x32768, .f32⟩
  | 78 => ⟨S64x10x32768, .f32⟩
  | 79 => ⟨S64x10x32768, .f32⟩
  | 80 => ⟨S64x10, .f32⟩
  | 81 => ⟨S64x10, .f32⟩
  | 82 => ⟨S64x10, .f32⟩
  | 83 => ⟨S64x10, .f32⟩
  | 84 => ⟨S_, .f32⟩
  | 85 => ⟨S_, .f32⟩
  | 86 => ⟨S64x10, .f32⟩
  | 87 => ⟨S10, .f32⟩
  | 88 => ⟨S_, .f32⟩
  | 89 => ⟨S10, .f32⟩
  | 90 => ⟨S10, .f32⟩
  | 91 => ⟨S1x10, .f32⟩
  | 92 => ⟨S64x10, .f32⟩
  | 93 => ⟨S64x10, .f32⟩
  | 94 => ⟨S_, .f32⟩
  | 95 => ⟨S64x10, .f32⟩
  | 96 => ⟨S64x10, .f32⟩
  | 97 => ⟨S64x10, .i1⟩
  | 98 => ⟨S64x10, .i32⟩
  | 99 => ⟨S_, .i32⟩
  | 100 => ⟨S64, .i32⟩
  | 101 => ⟨S_, .i32⟩
  | 102 => ⟨S64, .i32⟩
  | 103 => ⟨S64, .i32⟩
  | 104 => ⟨S64x1, .i32⟩
  | 105 => ⟨S_, .i32⟩
  | 106 => ⟨S64x1, .i32⟩
  | 107 => ⟨S64x1, .i1⟩
  | 108 => ⟨S_, .i32⟩
  | 109 => ⟨S64x1, .i32⟩
  | 110 => ⟨S64x1, .i32⟩
  | 111 => ⟨S64x1, .i32⟩
  | 112 => ⟨S64x1x1, .i32⟩
  | 113 => ⟨S1, .i32⟩
  | 114 => ⟨S_, .i32⟩
  | 115 => ⟨S64x1x1, .i32⟩
  | 116 => ⟨S64x1x1, .i1⟩
  | 117 => ⟨S1x1x1, .i32⟩
  | 118 => ⟨S64x1x1, .i32⟩
  | 119 => ⟨S64x1x1, .i1⟩
  | 120 => ⟨S64x1x1, .i1⟩
  | 121 => ⟨S_, .i1⟩
  | 122 => ⟨S64x1, .i1⟩
  | 123 => ⟨S64x1, .f32⟩
  | 124 => ⟨S_, .f32⟩
  | 125 => ⟨S64x1, .f32⟩
  | 126 => ⟨S64x1, .f32⟩
  | 127 => ⟨S_, .f32⟩
  | _ => ⟨S64x32768, .f32⟩

abbrev hbmTy0_1 (i : Nat) : BufTy := match i % 128 with
  | 0 => ⟨S64x1, .f32⟩
  | 1 => ⟨S64x1, .f32⟩
  | 2 => ⟨S64x1, .i32⟩
  | 3 => ⟨S64x1, .f32⟩
  | 4 => ⟨S64x1, .f32⟩
  | 5 => ⟨S64x10, .f32⟩
  | 6 => ⟨S64x10, .f32⟩
  | 7 => ⟨S_, .f32⟩
  | 8 => ⟨S64x10, .f32⟩
  | 9 => ⟨S64x10, .f32⟩
  | 10 => ⟨S640, .f32⟩
  | 11 => ⟨S_, .f32⟩
  | 12 => ⟨S640, .f32⟩
  | 13 => ⟨S640, .i1⟩
  | 14 => ⟨S_, .f32⟩
  | 15 => ⟨S_, .f32⟩
  | 16 => ⟨S640, .f32⟩
  | 17 => ⟨S640, .f32⟩
  | 18 => ⟨S_, .f32⟩
  | 19 => ⟨S640, .f32⟩
  | 20 => ⟨S640, .i1⟩
  | 21 => ⟨S640, .f32⟩
  | 22 => ⟨S640, .f32⟩
  | 23 => ⟨S_, .f32⟩
  | 24 => ⟨S_, .f32⟩
  | 25 => ⟨S640, .f32⟩
  | 26 => ⟨S640, .f32⟩
  | 27 => ⟨S_, .f32⟩
  | 28 => ⟨S_, .f32⟩
  | 29 => ⟨S_, .f32⟩
  | 30 => ⟨S_, .f32⟩
  | 31 => ⟨S_, .f32⟩
  | _ => ⟨S64x32768, .f32⟩

abbrev hbmTy (i : Nat) : BufTy := match i / 128 with
  | 0 => hbmTy0_0 i
  | 1 => hbmTy0_1 i
  | _ => ⟨S64x32768, .f32⟩

abbrev bufTy : (tb : Table) → Fin (tcTables nBuf tb) → BufTy
  | .hbm, ⟨i, _⟩ => hbmTy i
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_values : Ref sig .tc := ⟨.hbm, 7, rfl⟩
abbrev main_indices : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_values_0 : Ref sig .tc := ⟨.hbm, 24, rfl⟩
abbrev main_indices_1 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call2_call0_cst : Ref sig .tc := ⟨.hbm, 84, rfl⟩
abbrev main_call2_call0_v0 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_15 : Ref sig .tc := ⟨.hbm, 99, rfl⟩
abbrev main_v77 : Ref sig .tc := ⟨.hbm, 100, rfl⟩
abbrev main_c_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_cst : Ref sig .tc := ⟨.hbm, 124, rfl⟩
abbrev main_call3_v14 : Ref sig .tc := ⟨.hbm, 125, rfl⟩
abbrev main_v81 : Ref sig .tc := ⟨.hbm, 126, rfl⟩
abbrev main_cst_17 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_18 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_19 : Ref sig .tc := ⟨.hbm, 139, rfl⟩
abbrev main_v92 : Ref sig .tc := ⟨.hbm, 140, rfl⟩
abbrev main_v93 : Ref sig .tc := ⟨.hbm, 141, rfl⟩
abbrev main_cst_20 : Ref sig .tc := ⟨.hbm, 142, rfl⟩
abbrev main_call4_v0 : Ref sig .tc := ⟨.hbm, 143, rfl⟩
abbrev main_call4_v1 : Ref sig .tc := ⟨.hbm, 144, rfl⟩
abbrev main_v94 : Ref sig .tc := ⟨.hbm, 145, rfl⟩
abbrev main_cst_21 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_22 : Ref sig .tc := ⟨.hbm, 151, rfl⟩
abbrev main_call5_v0 : Ref sig .tc := ⟨.hbm, 152, rfl⟩
abbrev main_call5_v1 : Ref sig .tc := ⟨.hbm, 153, rfl⟩
abbrev main_v99 : Ref sig .tc := ⟨.hbm, 154, rfl⟩
abbrev main_cst_23 : Ref sig .tc := ⟨.hbm, 155, rfl⟩
abbrev main_v100 : Ref sig .tc := ⟨.hbm, 156, rfl⟩
abbrev main_v101 : Ref sig .tc := ⟨.hbm, 157, rfl⟩
abbrev main_cst_24 : Ref sig .tc := ⟨.hbm, 158, rfl⟩
abbrev main_v102 : Ref sig .tc := ⟨.hbm, 159, rfl⟩

abbrev nD : Nat := 1
abbrev τ : Topo := Topo.v7x

variable {F : FTy → Type} [FloatOps F]
-- ==== Proof.Rounds.lean ====
/-
  Taking the smallest entry of a row again and again: a round finds the first position that holds the smallest
  entry and overwrites it with `+∞`. On a row without `+∞` the positions found are those of a stable ascending sort.
-/
module

public import Idealize.ShloMosaic.Lib.SortPrefix
public import Mathlib.Data.EReal.Basic

@[expose] public section

noncomputable section

namespace Cert.Rounds

open Idealize.ShloMosaic

variable {n : ℕ}

/-- `p` is the first position of the row `x` that holds its smallest entry. -/
def First (x : Fin n → EReal) (p : Fin n) : Prop := (∀ q, x p ≤ x q) ∧ ∀ q, q < p → x p < x q

/-- A row that is not empty has such a position. -/
theorem exists_first [NeZero n] (x : Fin n → EReal) : ∃ p, First x p := by
  classical
  obtain ⟨p₀, -, h₀⟩ := Finset.exists_min_image Finset.univ x ⟨0, Finset.mem_univ _⟩
  obtain ⟨p, hp, h⟩ := Finset.exists_min_image (Finset.univ.filter fun p => ∀ q, x p ≤ x q) id
    ⟨p₀, by simpa using fun q => h₀ q (Finset.mem_univ _)⟩
  rw [Finset.mem_filter] at hp
  refine ⟨p, hp.2, fun q hq => lt_of_not_ge fun hle => ?_⟩
  exact absurd (h q (by simpa using fun r => hle.trans (hp.2 r))) (not_le_of_gt hq)

/-- There is only one such position. -/
theorem First.unique {x : Fin n → EReal} {p q : Fin n} (hp : First x p) (hq : First x q) : p = q := by
  rcases lt_trichotomy p q with h | h | h
  · exact absurd (hp.1 q) (not_le_of_gt (hq.2 p h))
  · exact h
  · exact absurd (hq.1 p) (not_le_of_gt (hp.2 q h))

/-- The first position of the smallest entry. -/
def pick [NeZero n] (x : Fin n → EReal) : Fin n := (exists_first x).choose

theorem pick_first [NeZero n] (x : Fin n → EReal) : First x (pick x) := (exists_first x).choose_spec

/-- The row after `r` rounds: every position found so far holds `+∞`. -/
def rem [NeZero n] (x : Fin n → EReal) : ℕ → Fin n → EReal
  | 0 => x
  | r + 1 => Function.update (rem x r) (pick (rem x r)) ⊤

/-- The position that round `r` finds. -/
def pos [NeZero n] (x : Fin n → EReal) (r : ℕ) : Fin n := pick (rem x r)

/-- After `r` rounds a position holds `+∞` if a round before found it, and else its first entry. -/
theorem rem_eq [NeZero n] (x : Fin n → EReal) (r : ℕ) (q : Fin n) :
    ((∃ j < r, pos x j = q) → rem x r q = ⊤) ∧ ((∀ j < r, pos x j ≠ q) → rem x r q = x q) := by
  induction r with
  | zero => exact ⟨fun ⟨j, hj, _⟩ => absurd hj (Nat.not_lt_zero j), fun _ => rfl⟩
  | succ r ih =>
    by_cases h : pos x r = q
    · refine ⟨fun _ => ?_, fun h' => absurd h (h' r (Nat.lt_succ_self r))⟩
      subst h
      exact Function.update_self ..
    · have e : rem x (r + 1) q = rem x r q := Function.update_of_ne (Ne.symm h) ..
      rw [e]
      refine ⟨fun ⟨j, hj, hjq⟩ => ih.1 ⟨j, ?_, hjq⟩, fun h' => ih.2 fun j hj => h' j (Nat.lt_succ_of_lt hj)⟩
      rcases Nat.lt_succ_iff_lt_or_eq.mp hj with h' | rfl
      · exact h'
      · exact absurd hjq h

/-- While a position is left, a round finds one that no round before it found. -/
theorem pos_fresh [NeZero n] (x : Fin n → EReal) (hx : ∀ k, x k < ⊤) (r : ℕ) (hr : r < n) (j : ℕ) (hj : j < r) :
    pos x j ≠ pos x r := by
  intro e
  have hcard : (Finset.image (fun j : Fin r => pos x j) Finset.univ).card < (Finset.univ : Finset (Fin n)).card :=
    lt_of_le_of_lt Finset.card_image_le (by simpa using hr)
  obtain ⟨q, -, hq⟩ := Finset.exists_mem_notMem_of_card_lt_card hcard
  have hq' : ∀ i < r, pos x i ≠ q := fun i hi hiq =>
    hq (Finset.mem_image.mpr ⟨⟨i, hi⟩, Finset.mem_univ _, hiq⟩)
  have h1 : rem x r q < ⊤ := ((rem_eq x r q).2 hq').symm ▸ hx q
  have h2 := (pick_first (rem x r)).1 q
  have h3 : rem x r (pos x r) = ⊤ := (rem_eq x r _).1 ⟨j, hj, e⟩
  exact absurd (h3 ▸ h2 : ⊤ ≤ rem x r q) (not_le_of_gt h1)

/-- The rounds find pairwise different positions. -/
theorem pos_injective [NeZero n] (x : Fin n → EReal) (hx : ∀ k, x k < ⊤) {i j : ℕ} (hi : i < n) (hj : j < n)
    (e : pos x i = pos x j) : i = j := by
  rcases lt_trichotomy i j with h | h | h
  · exact absurd e (pos_fresh x hx j hj i h)
  · exact h
  · exact absurd e.symm (pos_fresh x hx i hi j h)

/-- What a round sees at the position it finds is the row's first entry there. -/
theorem rem_pos [NeZero n] (x : Fin n → EReal) (hx : ∀ k, x k < ⊤) (r : ℕ) (hr : r < n) :
    rem x r (pos x r) = x (pos x r) :=
  (rem_eq x r _).2 fun j hj => pos_fresh x hx r hr j hj

/-- A position that no round before `r` found does not come before the one that round `r` finds. -/
theorem pos_le [NeZero n] (x : Fin n → EReal) (hx : ∀ k, x k < ⊤) (r : ℕ) (hr : r < n) (q : Fin n)
    (hq : ∀ j < r, pos x j ≠ q) : x (pos x r) ≤ x q ∧ (q < pos x r → x (pos x r) < x q) := by
  have h := pick_first (rem x r)
  have e := (rem_eq x r q).2 hq
  have e' := rem_pos x hx r hr
  unfold pos at *
  exact ⟨e' ▸ e ▸ h.1 q, fun hlt => e' ▸ e ▸ h.2 q hlt⟩

/-- Inserting ahead of later positions, a tie leaves the earlier position in front. -/
theorem stableSort_tie (x : Fin n → EReal) (l : List (Fin n)) (hl : l.Pairwise (· < ·)) :
    stableSort (fun a b => decide (x a < x b)) l
      = stableSort (fun a b => decide (x a < x b) || (decide (x a = x b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt_of_gt hab]

/-- On a row without `+∞` the stable ascending sort puts at place `i` the position that round `i` finds. -/
theorem sortedFrom_eq_pos [NeZero n] (x : Fin n → EReal) (hx : ∀ k, x k < ⊤) (B : Fin n → Fin n → Bool)
    (hB : ∀ a b, B a b = decide (x a < x b)) (i : Fin n) : sortedFrom B i = pos x i := by
  have hB' : B = fun a b => decide (x a < x b) := funext fun a => funext fun b => hB a b
  have hS : sortedFrom B i
      = sortedFrom (fun a b => decide (x a < x b) || (decide (x a = x b) && decide (a < b))) i := by
    unfold sortedFrom sortPositions
    rw [List.get_of_eq (by rw [hB', stableSort_tie x _ (List.pairwise_lt_finRange n)])]
    rfl
  have hT : StrictTotalBefore fun a b : Fin n => decide (x a < x b) || (decide (x a = x b) && decide (a < b)) :=
    StrictTotalBefore.of_key_then_position (fun a b => decide (a < b)) x (by simp)
      (fun a b c h h' => by simp only [decide_eq_true_eq] at *; exact h.trans h')
      (fun a b => by simpa using lt_trichotomy a b)
  have hno : ∀ (i : Fin n) (q : Fin n), (∀ j < i.val, pos x j ≠ q) →
      (decide (x q < x (pos x i)) || (decide (x q = x (pos x i)) && decide (q < pos x i))) = false := by
    intro i q hq
    obtain ⟨h1, h2⟩ := pos_le x hx i i.isLt q hq
    simp only [Bool.or_eq_false_iff, Bool.and_eq_false_iff, decide_eq_false_iff_not, not_lt]
    refine ⟨h1, ?_⟩
    by_cases hlt : q < pos x i
    · exact Or.inl (h2 hlt).ne'
    · exact Or.inr (not_lt.mp hlt)
  rw [hS]
  have := hT.sortedFrom_eq_of_prefix (le_refl n) (fun j : Fin n => pos x j)
    (fun a b e => Fin.ext (pos_injective x hx a.isLt b.isLt e))
    (fun a b hab => hno a _ fun j hj => fun e =>
      absurd (pos_injective x hx (hj.trans a.isLt) b.isLt e) (by have : a.val < b.val := hab; omega))
    (fun a q hq => hno a q fun j hj => hq ⟨j, hj.trans a.isLt⟩) i
  simpa using this

end Cert.Rounds

end
-- ==== Proof.RoundOps.lean ====
/-
  One round of the search "take the least entry of every row, the first one at ties, then overwrite it",
  as the vector operations of a [B, N] block spell it, read as a statement about the block's rows.
-/
module

public import proofs.«01_k».proof.Proof.Rounds
public import Idealize.ShloMosaic.PureOps.Reduce
public import Idealize.ShloMosaic.PureOps.Ideal.Laws
public import Idealize.ShloMosaic.Lib.Pipeline.Value
public import Idealize.ShloMosaic.Lib.Pointwise
public import Idealize.ShloMosaic.Lib.StableHlo.Predicate

@[expose] public section

noncomputable section

namespace Cert.RoundOps

open Idealize.ShloMosaic Cert.Rounds

/-- The block shape, its column of row results, and the rank-one shape between them. -/
abbrev Blk (B N : Nat) : Shape := ⟨2, ![B, N]⟩
abbrev Vct (B : Nat) : Shape := ⟨1, ![B]⟩

/-- The side conditions of the operations a round consists of. -/
structure Sides (B N : Nat) : Prop where
  red : (Blk B N).Reduces [1] (Vct B)
  cast : (Vct B).ShapeCasts (Blk B 1)
  bcast : (Blk B 1).Broadcasts (Blk B N)
  iot : (Blk B N).Iotas .tc 32 [1]

variable {B N : Nat}

/-- Row `b` of a block. -/
def row {α : Type} (a : (Blk B N).Idx → α) (b : Fin B) : Fin N → α := fun k => a (ix2 b k)

/-- The rows' minima, a column. -/
def minV (h : Sides B N) (a : FVec Ideal (Blk B N) .f32) : FVec Ideal (Blk B 1) .f32 :=
  shapeCast (Blk B 1) (multiReduction .minimumf [1] (Vct B) a 0x7F800000#32 h.red (.inl rfl) rfl) h.cast

/-- The rows' maxima, a column. -/
def maxV (h : Sides B N) (a : FVec Ideal (Blk B N) .f32) : FVec Ideal (Blk B 1) .f32 :=
  shapeCast (Blk B 1) (multiReduction .maximumf [1] (Vct B) a 0xFF800000#32 h.red (.inl rfl) rfl) h.cast

/-- The first lane of each row equal to the row's entry of the column `m`. -/
def idxV (h : Sides B N) (a : FVec Ideal (Blk B N) .f32) (m : FVec Ideal (Blk B 1) .f32) : IVec (Blk B 1) 32 :=
  shapeCast (Blk B 1)
    (multiReductionI .minsi [1] (Vct B)
      (select (cmpf .oeq a (broadcastTo (Blk B N) m h.bcast)) (iota .tc (Blk B N) 32 [1] h.iot)
        (broadcast (Blk B N) 1073741824#32)) 2147483647#32 h.red rfl) h.cast

/-- The block with the lane each row's word `w` names overwritten by `x`. -/
def maskV (h : Sides B N) (a : FVec Ideal (Blk B N) .f32) (w : IVec (Blk B 1) 32) (x : Ideal .f32) :
    FVec Ideal (Blk B N) .f32 :=
  select (cmpi .eq (iota .tc (Blk B N) 32 [1] h.iot) (broadcastTo (Blk B N) w h.bcast)) (broadcast (Blk B N) x) a

/-- A column cast from a vector reads the vector at its row. -/
theorem col_apply {α : Type} (v : (Vct B).Idx → α) (h : (Vct B).ShapeCasts (Blk B 1)) (b : Fin B) :
    shapeCast (Blk B 1) v h (ix2 b 0) = v (ix1 b) := by
  refine shapeCast_apply v h _ _ ?_
  rw [Shape.rowMajor_val_two, Shape.rowMajor_val_one]
  simp

/-- A column broadcast along the lanes reads the column at its row. -/
theorem bcol_apply {α : Type} (v : (Blk B 1).Idx → α) (h : (Blk B 1).Broadcasts (Blk B N)) (b : Fin B) (k : Fin N) :
    broadcastTo (Blk B N) v h (ix2 b k) = v (ix2 b 0) := by
  refine broadcastTo_apply v h _ _ fun a => ?_
  fin_cases a
  · show (b : ℕ) = if B = 1 then 0 else (b : ℕ)
    split
    · have := b.isLt; omega
    · rfl
  · rfl

/-- The lanes a row reduction folds at row `b` are that row's. -/
theorem mem_fiber (h : (Blk B N).Reduces [1] (Vct B)) (b : Fin B) (i : (Blk B N).Idx) :
    i ∈ (Finset.univ.filter fun i => h.drop i = ix1 b) ↔ i 0 = b := by
  have := h.drop_apply_val_of_eq i 0 0 Nat.zero_lt_one rfl
  simp only [Finset.mem_filter, Finset.mem_univ, true_and]
  constructor
  · intro e; rw [e] at this; exact Fin.ext this.symm
  · intro e; rw [eq_ix1 (h.drop i)]; exact congrArg ix1 (Fin.ext (this.trans (congrArg Fin.val e)))

/-- A truth value's word is one exactly when it holds. -/
theorem ofBool_one (c : Bool) : BitVec.ofBool c = 1 ↔ c = true := by cases c <;> decide

/-- A fold of `min` from the top is the least of the folded entries. -/
theorem fold_min {ι : Type} (s : Finset ι) (f : ι → EReal) (p : ι) (hp : p ∈ s) (hle : ∀ i ∈ s, f p ≤ f i) :
    s.fold min ⊤ f = f p :=
  le_antisymm (Finset.fold_min_le _ |>.2 (.inr ⟨p, hp, le_rfl⟩)) (Finset.le_fold_min _ |>.2 ⟨le_top, hle⟩)

/-- A fold of `max` from the bottom is the greatest of the folded entries. -/
theorem fold_max {ι : Type} (s : Finset ι) (f : ι → EReal) (p : ι) (hp : p ∈ s) (hle : ∀ i ∈ s, f i ≤ f p) :
    s.fold max ⊥ f = f p :=
  le_antisymm (Finset.fold_max_le _ |>.2 ⟨bot_le, hle⟩) (Finset.le_fold_max _ |>.2 (.inr ⟨p, hp, le_rfl⟩))

/-- The two infinities' words. -/
theorem ofBits_top : FloatOps.ofBits (F := Ideal) .f32 0x7F800000#32 = (⊤ : EReal) := by
  simp [FloatOps.ofBits, Ideal.ofBits, Ideal.ieee]
theorem ofBits_bot : FloatOps.ofBits (F := Ideal) .f32 0xFF800000#32 = (⊥ : EReal) := by
  simp [FloatOps.ofBits, Ideal.ofBits, Ideal.ieee]

theorem minV_apply (h : Sides B N) (a : FVec Ideal (Blk B N) .f32) (b : Fin B) (p : Fin N)
    (hp : ∀ q, row a b p ≤ row a b q) : minV h a (ix2 b 0) = row a b p := by
  refine (col_apply _ _ _).trans ((multiReduction_minimumf_eq_fold a _ h.red _ _ _).trans ?_)
  rw [ofBits_top]
  refine fold_min _ a (ix2 b p) ((mem_fiber _ _ _).2 rfl) fun i hi => ?_
  have := (mem_fiber _ _ _).1 hi
  rw [eq_ix2 i, this]; exact hp _

theorem maxV_apply (h : Sides B N) (a : FVec Ideal (Blk B N) .f32) (b : Fin B) (p : Fin N)
    (hp : ∀ q, row a b q ≤ row a b p) : maxV h a (ix2 b 0) = row a b p := by
  refine (col_apply _ _ _).trans ((multiReduction_maximumf_eq_fold a _ h.red _ _ _).trans ?_)
  rw [ofBits_bot]
  refine fold_max _ a (ix2 b p) ((mem_fiber _ _ _).2 rfl) fun i hi => ?_
  have := (mem_fiber _ _ _).1 hi
  rw [eq_ix2 i, this]; exact hp _

/-- A fold of the signed minimum whose every operand is a small natural's word or larger, one being `p`'s, the least. -/
theorem fold_minsi {ι : Type} (s : Finset ι) (f : ι → BitVec 32) (w : BitVec 32) (init : BitVec 32)
    (hi : w.toInt ≤ init.toInt) (hw : ∃ i ∈ s, f i = w) (hle : ∀ i ∈ s, w.toInt ≤ (f i).toInt) :
    s.fold IntOp.minsi init f = w := by
  classical
  have key : ∀ x y : BitVec 32, (IntOp.minsi x y).toInt = min x.toInt y.toInt := fun x y => by
    simp only [IntOp.minsi, BitVec.slt, decide_eq_true_eq]
    split <;> rename_i hh
    · exact (min_eq_left hh.le).symm
    · exact (min_eq_right (not_lt.1 hh)).symm
  have fold_toInt : (s.fold IntOp.minsi init f).toInt = s.fold min init.toInt fun i => (f i).toInt := by
    clear hw hle
    induction s using Finset.induction_on with
    | empty => rfl
    | insert i s his ih => rw [Finset.fold_insert his, Finset.fold_insert his, key, ih]
  obtain ⟨i, his, hiw⟩ := hw
  refine BitVec.eq_of_toInt_eq ?_
  rw [fold_toInt]
  exact le_antisymm (Finset.fold_min_le _ |>.2 (.inr ⟨i, his, by rw [hiw]⟩)) (Finset.le_fold_min _ |>.2 ⟨hi, hle⟩)

/-- The word of a lane number below 2^30 read signed is the number. -/
theorem toInt_lane (k : ℕ) (hk : k < 1073741824) : (BitVec.ofNat 32 k).toInt = k := by
  rw [BitVec.toInt_eq_toNat_of_lt] <;> simp <;> omega

/-- The lane word of row `b`: `p`, when `p` is the first lane of the row equal to the column's entry. -/
theorem idxV_apply (hN : N ≤ 1073741824) (h : Sides B N) (a : FVec Ideal (Blk B N) .f32)
    (m : FVec Ideal (Blk B 1) .f32) (b : Fin B) (p : Fin N) (hp : row a b p = m (ix2 b 0))
    (hq : ∀ q < p, row a b q ≠ m (ix2 b 0)) : idxV h a m (ix2 b 0) = BitVec.ofNat 32 p := by
  refine (col_apply _ _ _).trans ((multiReductionI_eq_fold _ _ _ h.red _ _).trans ?_)
  have val : ∀ k : Fin N, (select (cmpf .oeq a (broadcastTo (Blk B N) m h.bcast))
      (iota .tc (Blk B N) 32 [1] h.iot) (broadcast (Blk B N) 1073741824#32)) (ix2 b k)
      = if row a b k = m (ix2 b 0) then BitVec.ofNat 32 k else 1073741824#32 := by
    intro k
    simp only [select, cmpf, broadcast, bcol_apply, iota_single_apply, Scalar.select]
    exact if_congr ((ofBool_one _).trans decide_eq_true_iff) (iota_single_apply _ _ _ _ _ _) rfl
  refine fold_minsi _ _ _ _ ?_ ⟨ix2 b p, (mem_fiber _ _ _).2 rfl, by rw [val, if_pos hp]⟩ fun i hi => ?_
  · rw [toInt_lane _ (by omega)]; have := p.isLt; simp; omega
  · have := (mem_fiber _ _ _).1 hi
    obtain ⟨k, rfl⟩ : ∃ k : Fin N, i = ix2 b k := ⟨i 1, by rw [eq_ix2 i, this]; rfl⟩
    rw [val, toInt_lane _ (by omega)]
    split
    · rename_i he
      rw [toInt_lane _ (by omega)]
      exact_mod_cast not_lt.1 fun hlt => hq _ hlt he
    · have := p.isLt; simp; omega

/-- The masked block's row: the row with lane `p` overwritten, when the row's word is `p`'s. -/
theorem maskV_row (hN : N ≤ 1073741824) (h : Sides B N) (a : FVec Ideal (Blk B N) .f32) (w : IVec (Blk B 1) 32)
    (x : Ideal .f32) (b : Fin B) (p : Fin N) (hw : w (ix2 b 0) = BitVec.ofNat 32 p) :
    row (maskV h a w x) b = Function.update (row a b) p x := by
  funext k
  simp only [row, maskV, select, cmpi, broadcast, bcol_apply, iota_single_apply, Scalar.select, hw, Function.update_apply]
  refine if_congr ?_ rfl rfl
  have hi : iota .tc (Blk B N) 32 [1] h.iot (ix2 b k) = BitVec.ofNat 32 k := iota_single_apply _ _ _ _ _ _
  refine Idealize.ShloMosaic.StableHlo.Predicate.cmpi_eq_iff.trans ⟨fun e => ?_, fun e => by rw [hi, e]⟩
  have := congrArg BitVec.toNat (hi.symm.trans e)
  simp only [BitVec.toNat_ofNat] at this
  rw [Nat.mod_eq_of_lt, Nat.mod_eq_of_lt] at this
  · exact Fin.ext this
  all_goals have := p.isLt; have := k.isLt; omega

/-- One round: the row minima found and overwritten by `+∞`. -/
def nxt (h : Sides B N) (a : FVec Ideal (Blk B N) .f32) : FVec Ideal (Blk B N) .f32 :=
  maskV h a (idxV h a (minV h a)) (Scalar.ofBits .f32 0x7F800000#32)

/-- The block after `r` rounds. -/
def st (h : Sides B N) (a : FVec Ideal (Blk B N) .f32) : ℕ → FVec Ideal (Blk B N) .f32
  | 0 => a
  | r + 1 => nxt h (st h a r)

/-- One round of the greatest entries: the row maxima found and overwritten by `-∞`. -/
def nxtMax (h : Sides B N) (a : FVec Ideal (Blk B N) .f32) : FVec Ideal (Blk B N) .f32 :=
  maskV h a (idxV h a (maxV h a)) (Scalar.ofBits .f32 0xFF800000#32)

/-- The block after `r` such rounds. -/
def stMax (h : Sides B N) (a : FVec Ideal (Blk B N) .f32) : ℕ → FVec Ideal (Blk B N) .f32
  | 0 => a
  | r + 1 => nxtMax h (stMax h a r)

section
variable [NeZero N] (hN : N ≤ 1073741824) (h : Sides B N) (a : FVec Ideal (Blk B N) .f32) (b : Fin B)

/-- The column of minima holds the row's entry at the picked lane. -/
theorem minV_pick : minV h a (ix2 b 0) = row a b (pick (row a b)) :=
  minV_apply h a b _ (pick_first (row a b)).1

include hN in
/-- The column of lanes holds the picked lane. -/
theorem idxV_pick : idxV h a (minV h a) (ix2 b 0) = BitVec.ofNat 32 (pick (row a b)) :=
  idxV_apply hN h a _ b _ (minV_pick h a b).symm fun q hq e =>
    absurd (e.trans (minV_pick h a b)) ((pick_first (row a b)).2 q hq).ne'

include hN in
theorem st_row (r : ℕ) : row (st h a r) b = rem (row a b) r := by
  induction r with
  | zero => rfl
  | succ r ih =>
    have := maskV_row hN h (st h a r) _ (Scalar.ofBits .f32 0x7F800000#32) b _ (idxV_pick hN h (st h a r) b)
    rw [ih] at this
    exact this.trans (congrArg (Function.update (rem (row a b) r) (pick (rem (row a b) r))) ofBits_top)

include hN in
/-- Round `r` finds the lane `pos r` of the row. -/
theorem st_lane (r : ℕ) : idxV h (st h a r) (minV h (st h a r)) (ix2 b 0) = BitVec.ofNat 32 (pos (row a b) r) := by
  rw [idxV_pick hN, st_row hN]; rfl

include hN in
/-- Round `r` reads the row's own entry there. -/
theorem st_min (hx : ∀ k, row a b k < ⊤) (r : ℕ) (hr : r < N) :
    minV h (st h a r) (ix2 b 0) = row a b (pos (row a b) r) := by
  rw [minV_pick, st_row hN]; exact rem_pos (row a b) hx r hr

/-- A row negated. -/
def nrow (a : FVec Ideal (Blk B N) .f32) (b : Fin B) : Fin N → EReal := fun k => -row a b k

theorem maxV_pick : maxV h a (ix2 b 0) = row a b (pick (nrow a b)) :=
  maxV_apply h a b _ fun q => EReal.neg_le_neg_iff.1 ((pick_first (nrow a b)).1 q)

include hN in
theorem idxV_pickMax : idxV h a (maxV h a) (ix2 b 0) = BitVec.ofNat 32 (pick (nrow a b)) :=
  idxV_apply hN h a _ b _ (maxV_pick h a b).symm fun q hq e =>
    absurd (congrArg Neg.neg (e.trans (maxV_pick h a b))) ((pick_first (nrow a b)).2 q hq).ne'

include hN in
theorem stMax_row (r : ℕ) : nrow (stMax h a r) b = rem (nrow a b) r := by
  induction r with
  | zero => rfl
  | succ r ih =>
    have := maskV_row hN h (stMax h a r) _ (Scalar.ofBits .f32 0xFF800000#32) b _ (idxV_pickMax hN h (stMax h a r) b)
    rw [ih] at this
    funext k
    have hk := congrFun this k
    rw [Function.update_apply] at hk
    show -row (stMax h a (r + 1)) b k = Function.update (rem (nrow a b) r) (pick (rem (nrow a b) r)) ⊤ k
    rw [Function.update_apply, show row (stMax h a (r + 1)) b k = _ from hk]
    split
    · exact (congrArg Neg.neg ofBits_bot).trans EReal.neg_bot
    · exact congrFun ih k

include hN in
/-- Round `r` of the greatest entries reads the row's entry at the lane `pos r` of the negated row. -/
theorem stMax_max (hx : ∀ k, ⊥ < row a b k) (r : ℕ) (hr : r < N) :
    maxV h (stMax h a r) (ix2 b 0) = row a b (pos (nrow a b) r) := by
  have e : nrow (stMax h a r) b (pick (nrow (stMax h a r) b)) = nrow a b (pos (nrow a b) r) := by
    rw [stMax_row hN]
    exact rem_pos (nrow a b) (fun k => EReal.neg_lt_comm.1 (by simpa using hx k)) r hr
  rw [maxV_pick]
  exact neg_injective e

end

end Cert.RoundOps

end
-- ==== Proof.Words.lean ====
/-
  Single bits of 32-bit words: the test `(w >> i) & 1` and the word put together from such bits.
-/
module

public import Idealize.ShloMosaic.PureOps.Float
public import Idealize.ShloMosaic.Lib.StableHlo.Predicate

@[expose] public section

namespace Cert.Words

open Idealize.ShloMosaic

/-- Shifting right by less than the width and keeping the last bit leaves bit `i`. -/
theorem bit_word (u : ArithUnit) (w : BitVec 32) (i : ℕ) (hi : i < 32) :
    IntOp.andi (IntOp.shrsi u w (BitVec.ofNat 32 i)) 1#32 = if w.getLsbD i then 1#32 else 0#32 := by
  have h : (BitVec.ofNat 32 i).toNat = i := by simp; omega
  have e : IntOp.shrsi u w (BitVec.ofNat 32 i) = w.sshiftRight i := by
    unfold IntOp.shrsi
    rw [if_pos (by omega), BitVec.sshiftRight', h]
  rw [e]
  show w.sshiftRight i &&& 1#32 = _
  ext j hj
  rw [BitVec.getElem_and, BitVec.getElem_one]
  by_cases hj0 : j = 0
  · subst hj0
    rw [BitVec.getElem_sshiftRight]
    simp only [Nat.add_zero]
    rw [dif_pos hi]
    cases hb : w.getLsbD i <;> simp [BitVec.getLsbD_eq_getElem hi] at hb ⊢ <;> simp [hb]
  · cases hb : w.getLsbD i <;> simp [hj0, BitVec.getElem_one]

end Cert.Words
-- ==== Proof.Select.lean ====
/-
  What the selection block computes: the columns of its first two outputs are the lanes that the rounds find, on the
  absolute scores and then on the 1024 sums of the smallest ones.
-/
module

public import proofs.«01_k».proof.Proof.RoundOps
public import proofs.«01_k».proof.Proof.Words
public import proofs.«01_k».proof.Proof.Gen.KernelIdeal.Frame
public import Idealize.ShloMosaic.Lib.Pipeline.ReadBack

@[expose] public section

set_option maxRecDepth 16384

noncomputable section

namespace Cert.Select

open Idealize.ShloMosaic Cert.Rounds Cert.RoundOps Cert.KernelIdeal Cert.KernelIdeal.Gen

/-- The side conditions of the rounds on the scores' block and on the sums' block. -/
theorem sdN : Sides 64 32768 := ⟨reduces_S64x32768_S64, shapeCasts_S64_S64x1, broadcasts_S64x1_S64x32768, iota_S64x32768_d1_w32⟩
theorem sdM : Sides 64 1024 := ⟨reduces_S64x1024_S64, shapeCasts_S64_S64x1, broadcasts_S64x1_S64x1024, iota_S64x1024_d1_w32⟩

/-- The lanes and the entries that round `r` finds, columns. -/
def lane {B N : ℕ} (h : Sides B N) (a : FVec Ideal (Blk B N) .f32) (r : ℕ) : IVec (Blk B 1) 32 :=
  idxV h (st h a r) (minV h (st h a r))
def low {B N : ℕ} (h : Sides B N) (a : FVec Ideal (Blk B N) .f32) (r : ℕ) : FVec Ideal (Blk B 1) .f32 :=
  minV h (st h a r)

variable (x0 : Vec Ideal S64x32768 .f32)

/-- The absolute scores. -/
def absA : FVec Ideal S64x32768 .f32 := absf x0

/-- A load of the whole block is the block. -/
theorem ld_whole : View.ld x0 r0_0 = x0 := by
  refine View.ld_unit_zero ?_ _ _
  funext a; fin_cases a <;> rfl

/-! ## The rounds on the scores -/

theorem p87 : k0_pay87 x0 = st sdN (absA x0) 2 := by
  unfold k0_pay87; rw [ld_whole]; rfl
theorem p88 : k0_pay88 x0 = lane sdN (absA x0) 2 := by
  unfold k0_pay88; rw [ld_whole]; rfl
theorem p89 : k0_pay89 x0 = st sdN (absA x0) 5 := by
  unfold k0_pay89; rw [p87, p88]; rfl
theorem p90 : k0_pay90 x0 = lane sdN (absA x0) 5 := by
  unfold k0_pay90; rw [p87, p88]; rfl
theorem p91 : k0_pay91 x0 = st sdN (absA x0) 8 := by
  unfold k0_pay91; rw [p89, p90]; rfl
theorem p92 : k0_pay92 x0 = low sdN (absA x0) 8 := by
  unfold k0_pay92; rw [p89, p90]; rfl
theorem p93 : k0_pay93 x0 = lane sdN (absA x0) 8 := by
  unfold k0_pay93; rw [p89, p90]; rfl
theorem p95 : k0_pay95 x0 = low sdN (absA x0) 9 := by
  unfold k0_pay95; rw [p91, p93]; rfl

/-- A [64, 16] word block whose column `c` is `w c` for the first ten columns and the constant `z` after them. -/
def colsOut (w : ℕ → IVec S64x1 32) (z : BitVec 32) : Vec Ideal S64x16 .i32 := fun y =>
  if (y 1).val < 10 then w (y 1).val (ix2 (y 0) 0) else z

/-- A column store's index in the block. -/
theorem emb_col (c : ℕ) (hc : c < 16) (inb : ∀ a, (![0, c] : Fin 2 → ℕ) a + S64x1.size a ≤ S64x16.size a)
    (x : S64x1.Idx) : (Rect.unit (s := S64x16) ![0, c] S64x1.size inb).emb x = ix2 (x 0) ⟨c, hc⟩ := by
  idx_vars x
  funext a
  refine Fin.ext ?_
  fin_cases a
  · show 0 + 1 * x0.val = x0.val
    omega
  · show c + 1 * x1.val = c
    omega

/-- One of the first ten columns' stores is a block of `colsOut`, -/
theorem colsOut_hit (w : ℕ → IVec S64x1 32) (z : BitVec 32) (c : ℕ) (hc : c < 10) (inb) (p : IVec S64x1 32) (hp : p = w c)
    (x : S64x1.Idx) : p x = colsOut w z ((Rect.unit (s := S64x16) ![0, c] S64x1.size inb).emb x) := by
  rw [emb_col c (by omega) inb x, hp]
  idx_vars x
  rw [Subsingleton.elim x1 0]
  exact (if_pos (c := c < 10) hc).symm

/-- and so is a later column's store of the constant. -/
theorem colsOut_miss (w : ℕ → IVec S64x1 32) (z : BitVec 32) (c : ℕ) (hc : 10 ≤ c) (hc' : c < 16) (inb) (x : S64x1.Idx) :
    z = colsOut w z ((Rect.unit (s := S64x16) ![0, c] S64x1.size inb).emb x) := by
  rw [emb_col c hc' inb x]
  exact (if_neg (not_lt.2 hc)).symm

/-- The stores of the first output's first ten columns, the last one first. -/
theorem cols1 : k0_pay36 (k0_pay86 x0) (k0_pay91 x0) (k0_pay93 x0) = lane sdN (absA x0) 9
    ∧ k0_pay33 (k0_pay86 x0) (k0_pay89 x0) (k0_pay90 x0) = lane sdN (absA x0) 8
    ∧ k0_pay30 (k0_pay86 x0) (k0_pay89 x0) (k0_pay90 x0) = lane sdN (absA x0) 7
    ∧ k0_pay27 (k0_pay86 x0) (k0_pay89 x0) (k0_pay90 x0) = lane sdN (absA x0) 6
    ∧ k0_pay24 (k0_pay86 x0) (k0_pay87 x0) (k0_pay88 x0) = lane sdN (absA x0) 5
    ∧ k0_pay21 (k0_pay86 x0) (k0_pay87 x0) (k0_pay88 x0) = lane sdN (absA x0) 4
    ∧ k0_pay18 (k0_pay86 x0) (k0_pay87 x0) (k0_pay88 x0) = lane sdN (absA x0) 3
    ∧ k0_pay15 (View.ld x0 r0_0) = lane sdN (absA x0) 2
    ∧ k0_pay12 (View.ld x0 r0_0) = lane sdN (absA x0) 1
    ∧ k0_pay9 (View.ld x0 r0_0) = lane sdN (absA x0) 0 := by
  refine ⟨?_, ?_, ?_, ?_, ?_, ?_, ?_, ?_, ?_, ?_⟩
  · rw [p91, p93]; rfl
  iterate 3 (rw [p89, p90]; rfl)
  iterate 3 (rw [p87, p88]; rfl)
  iterate 3 (rw [ld_whole]; rfl)

/-- One store more, a block of `G`, before stores that are blocks of `G`. -/
theorem cons {Val : EltTy → Type} {s : Shape} {e : EltTy} {G : s.Idx → Val e} {r : Rect s} {p : r.shape.Idx → Val e}
    {L : List (View.Piece Val s e)} (h : ∀ x, p x = G (r.emb x)) (hL : View.PiecesOf G L) :
    View.PiecesOf G (⟨r, p⟩ :: L) :=
  ⟨h, hL⟩

/-- Column `c` of the first output is what round `c` on the scores finds; the six columns after the tenth hold `-1`. -/
theorem out1_eq : out0_1 x0 = colsOut (lane sdN (absA x0)) 4294967295#32 := by
  obtain ⟨h9, h8, h7, h6, h5, h4, h3, h2, h1, h0⟩ := cols1 x0
  have H10 := colsOut_miss (lane sdN (absA x0)) 4294967295#32 10 (by decide) (by decide) inb_S64x16_S64x1_0_10
  have H11 := colsOut_miss (lane sdN (absA x0)) 4294967295#32 11 (by decide) (by decide) inb_S64x16_S64x1_0_11
  have H12 := colsOut_miss (lane sdN (absA x0)) 4294967295#32 12 (by decide) (by decide) inb_S64x16_S64x1_0_12
  have H13 := colsOut_miss (lane sdN (absA x0)) 4294967295#32 13 (by decide) (by decide) inb_S64x16_S64x1_0_13
  have H14 := colsOut_miss (lane sdN (absA x0)) 4294967295#32 14 (by decide) (by decide) inb_S64x16_S64x1_0_14
  have H15 := colsOut_miss (lane sdN (absA x0)) 4294967295#32 15 (by decide) (by decide) inb_S64x16_S64x1_0_15
  have H0 := colsOut_hit (lane sdN (absA x0)) 4294967295#32 0 (by decide) inb_S64x16_S64x1_0_0 _ h0
  have H1 := colsOut_hit (lane sdN (absA x0)) 4294967295#32 1 (by decide) inb_S64x16_S64x1_0_1 _ h1
  have H2 := colsOut_hit (lane sdN (absA x0)) 4294967295#32 2 (by decide) inb_S64x16_S64x1_0_2 _ h2
  have H3 := colsOut_hit (lane sdN (absA x0)) 4294967295#32 3 (by decide) inb_S64x16_S64x1_0_3 _ h3
  have H4 := colsOut_hit (lane sdN (absA x0)) 4294967295#32 4 (by decide) inb_S64x16_S64x1_0_4 _ h4
  have H5 := colsOut_hit (lane sdN (absA x0)) 4294967295#32 5 (by decide) inb_S64x16_S64x1_0_5 _ h5
  have H6 := colsOut_hit (lane sdN (absA x0)) 4294967295#32 6 (by decide) inb_S64x16_S64x1_0_6 _ h6
  have H7 := colsOut_hit (lane sdN (absA x0)) 4294967295#32 7 (by decide) inb_S64x16_S64x1_0_7 _ h7
  have H8 := colsOut_hit (lane sdN (absA x0)) 4294967295#32 8 (by decide) inb_S64x16_S64x1_0_8 _ h8
  have H9 := colsOut_hit (lane sdN (absA x0)) 4294967295#32 9 (by decide) inb_S64x16_S64x1_0_9 _ h9
  generalize colsOut (lane sdN (absA x0)) 4294967295#32 = G at *
  funext y
  unfold out0_1
  refine View.canon_apply_of_pieces G _ ?_ y (cover0_1 _ _ _ _ _ _ _ _ _ _ _ _ _ _ _ _ y)
  exact View.PiecesOf.mem (cons H15 (cons H14 (cons H13 (cons H12 (cons H11 (cons H10 (cons H9 (cons H8 (cons H7 (cons H6 (cons H5 (cons H4 (cons H3 (cons H2 (cons H1 (cons H0 trivial))))))))))))))))

/-! ## The sums -/

/-- The running sums after adding entry `v` wherever bit `i` of the lane is set. -/
def addBit (acc : FVec Ideal S64x1024 .f32) (i : BitVec 32) (v : FVec Ideal S64x1 .f32) : FVec Ideal S64x1024 .f32 :=
  addf acc (select (cmpi .eq (andi (shrsi (iota .tc S64x1024 32 [1] iota_S64x1024_d1_w32) (broadcast S64x1024 i))
    (broadcast S64x1024 1#32)) (broadcast S64x1024 1#32))
    (broadcastTo S64x1024 (shapeCast S64x1 v shapeCasts_S64x1_S64x1) broadcasts_S64x1_S64x1024)
    (broadcast S64x1024 (Scalar.ofBits .f32 0x00000000#32)))

/-- The sums over the first `r` entries. -/
def sumsTo (v : ℕ → FVec Ideal S64x1 .f32) : ℕ → FVec Ideal S64x1024 .f32
  | 0 => broadcast S64x1024 (Scalar.ofBits .f32 0x00000000#32)
  | r + 1 => addBit (sumsTo v r) (BitVec.ofNat 32 r) (v r)

theorem addBit_apply (acc : FVec Ideal S64x1024 .f32) (i : ℕ) (hi : i < 32) (v : FVec Ideal S64x1 .f32) (b : Fin 64)
    (k : Fin 1024) : addBit acc (BitVec.ofNat 32 i) v (ix2 b k)
      = (acc (ix2 b k) + if (BitVec.ofNat 32 k).getLsbD i then v (ix2 b 0) else 0 : EReal) := by
  have hk : iota .tc S64x1024 32 [1] iota_S64x1024_d1_w32 (ix2 b k) = BitVec.ofNat 32 k := iota_single_apply _ _ _ _ _ _
  show (acc (ix2 b k) + Scalar.select (IntOp.cmpi .eq (IntOp.andi (IntOp.shrsi .vector
    (iota .tc S64x1024 32 [1] iota_S64x1024_d1_w32 (ix2 b k)) (BitVec.ofNat 32 i)) 1#32) 1#32)
    (broadcastTo S64x1024 (shapeCast S64x1 v shapeCasts_S64x1_S64x1) broadcasts_S64x1_S64x1024 (ix2 b k))
    (FloatOps.ofBits (F := Ideal) .f32 0x00000000#32) : EReal) = _
  rw [hk, Words.bit_word _ _ _ hi, bcol_apply, shapeCast_self, show FloatOps.ofBits (F := Ideal) .f32 0x00000000#32 = (0 : EReal) from Ideal.ofBits_zero_f32]
  congr 1
  cases (BitVec.ofNat 32 k).getLsbD i <;> rfl

/-- The sum of lane `k`: the entries whose bit of `k` is set. -/
theorem sumsTo_apply (v : ℕ → FVec Ideal S64x1 .f32) (r : ℕ) (hr : r ≤ 32) (b : Fin 64) (k : Fin 1024) :
    sumsTo v r (ix2 b k) = ∑ i : Fin r, (if (BitVec.ofNat 32 k).getLsbD i then (v i (ix2 b 0) : EReal) else 0) := by
  induction r with
  | zero => exact Ideal.ofBits_zero_f32
  | succ r ih => rw [Fin.sum_univ_castSucc, sumsTo, addBit_apply _ _ (by omega), ih (by omega)]; rfl

/-- The block of sums of the ten smallest absolute scores. -/
def sumsA : FVec Ideal S64x1024 .f32 := sumsTo (low sdN (absA x0)) 10

theorem p96 : k0_pay96 x0 = sumsTo (low sdN (absA x0)) 8 := by
  unfold k0_pay96; rw [p87, p88, p89, p90, ld_whole]; rfl
theorem p97 : k0_pay97 x0 = st sdM (sumsA x0) 1 := by
  unfold k0_pay97; rw [p92, p95, p96]; rfl
theorem p100 : k0_pay100 x0 = st sdM (sumsA x0) 3 := by
  unfold k0_pay100 k0_pay98; rw [p97, p92, p95, p96]; rfl
theorem p101 : k0_pay101 x0 = lane sdM (sumsA x0) 3 := by
  unfold k0_pay101 k0_pay98; rw [p97, p92, p95, p96]; rfl
theorem p102 : k0_pay102 x0 = st sdM (sumsA x0) 6 := by
  unfold k0_pay102; rw [p100, p101]; rfl
theorem p105 : k0_pay105 x0 = st sdM (sumsA x0) 8 := by
  unfold k0_pay105 k0_pay103; rw [p102, p100, p101]; rfl
theorem p106 : k0_pay106 x0 = lane sdM (sumsA x0) 8 := by
  unfold k0_pay106 k0_pay103; rw [p102, p100, p101]; rfl

/-- The stores of the second output's first ten columns, the last one first. -/
theorem cols2 : k0_pay79 (k0_pay94 x0) (k0_pay105 x0) (k0_pay106 x0) = lane sdM (sumsA x0) 9
    ∧ k0_pay76 (k0_pay94 x0) (k0_pay102 x0) (k0_pay103 x0) (k0_pay104 x0) = lane sdM (sumsA x0) 8
    ∧ k0_pay73 (k0_pay94 x0) (k0_pay102 x0) (k0_pay103 x0) (k0_pay104 x0) = lane sdM (sumsA x0) 7
    ∧ k0_pay70 (k0_pay94 x0) (k0_pay103 x0) (k0_pay104 x0) = lane sdM (sumsA x0) 6
    ∧ k0_pay65 (k0_pay94 x0) (k0_pay100 x0) (k0_pay101 x0) = lane sdM (sumsA x0) 5
    ∧ k0_pay62 (k0_pay94 x0) (k0_pay100 x0) (k0_pay101 x0) = lane sdM (sumsA x0) 4
    ∧ k0_pay59 (k0_pay94 x0) (k0_pay97 x0) (k0_pay98 x0) (k0_pay99 x0) = lane sdM (sumsA x0) 3
    ∧ k0_pay56 (k0_pay94 x0) (k0_pay97 x0) (k0_pay98 x0) (k0_pay99 x0) = lane sdM (sumsA x0) 2
    ∧ k0_pay53 (k0_pay94 x0) (k0_pay98 x0) (k0_pay99 x0) = lane sdM (sumsA x0) 1
    ∧ k0_pay48 (k0_pay92 x0) (k0_pay95 x0) (k0_pay94 x0) (k0_pay96 x0) 8#32 = lane sdM (sumsA x0) 0 := by
  refine ⟨?_, ?_, ?_, ?_, ?_, ?_, ?_, ?_, ?_, ?_⟩
  · rw [p105, p106]; rfl
  iterate 2 (unfold k0_pay103; rw [p102, p100, p101]; rfl)
  · unfold k0_pay103; rw [p100, p101]; rfl
  iterate 2 (rw [p100, p101]; rfl)
  iterate 2 (unfold k0_pay98; rw [p97, p92, p95, p96]; rfl)
  · unfold k0_pay98; rw [p92, p95, p96]; rfl
  · rw [p92, p95, p96]; rfl

/-- Column `c` of the second output is what round `c` on the sums finds; the six columns after the tenth hold zero. -/
theorem out2_eq : out0_2 x0 = colsOut (lane sdM (sumsA x0)) 0#32 := by
  obtain ⟨h9, h8, h7, h6, h5, h4, h3, h2, h1, h0⟩ := cols2 x0
  have H10 := colsOut_miss (lane sdM (sumsA x0)) 0#32 10 (by decide) (by decide) inb_S64x16_S64x1_0_10
  have H11 := colsOut_miss (lane sdM (sumsA x0)) 0#32 11 (by decide) (by decide) inb_S64x16_S64x1_0_11
  have H12 := colsOut_miss (lane sdM (sumsA x0)) 0#32 12 (by decide) (by decide) inb_S64x16_S64x1_0_12
  have H13 := colsOut_miss (lane sdM (sumsA x0)) 0#32 13 (by decide) (by decide) inb_S64x16_S64x1_0_13
  have H14 := colsOut_miss (lane sdM (sumsA x0)) 0#32 14 (by decide) (by decide) inb_S64x16_S64x1_0_14
  have H15 := colsOut_miss (lane sdM (sumsA x0)) 0#32 15 (by decide) (by decide) inb_S64x16_S64x1_0_15
  have H0 := colsOut_hit (lane sdM (sumsA x0)) 0#32 0 (by decide) inb_S64x16_S64x1_0_0 _ h0
  have H1 := colsOut_hit (lane sdM (sumsA x0)) 0#32 1 (by decide) inb_S64x16_S64x1_0_1 _ h1
  have H2 := colsOut_hit (lane sdM (sumsA x0)) 0#32 2 (by decide) inb_S64x16_S64x1_0_2 _ h2
  have H3 := colsOut_hit (lane sdM (sumsA x0)) 0#32 3 (by decide) inb_S64x16_S64x1_0_3 _ h3
  have H4 := colsOut_hit (lane sdM (sumsA x0)) 0#32 4 (by decide) inb_S64x16_S64x1_0_4 _ h4
  have H5 := colsOut_hit (lane sdM (sumsA x0)) 0#32 5 (by decide) inb_S64x16_S64x1_0_5 _ h5
  have H6 := colsOut_hit (lane sdM (sumsA x0)) 0#32 6 (by decide) inb_S64x16_S64x1_0_6 _ h6
  have H7 := colsOut_hit (lane sdM (sumsA x0)) 0#32 7 (by decide) inb_S64x16_S64x1_0_7 _ h7
  have H8 := colsOut_hit (lane sdM (sumsA x0)) 0#32 8 (by decide) inb_S64x16_S64x1_0_8 _ h8
  have H9 := colsOut_hit (lane sdM (sumsA x0)) 0#32 9 (by decide) inb_S64x16_S64x1_0_9 _ h9
  generalize colsOut (lane sdM (sumsA x0)) 0#32 = G at *
  funext y
  unfold out0_2
  refine View.canon_apply_of_pieces G _ ?_ y (cover0_2 _ _ _ _ _ _ _ _ _ _ _ _ _ _ _ _ y)
  exact View.PiecesOf.mem (cons H15 (cons H14 (cons H13 (cons H12 (cons H11 (cons H10 (cons H9 (cons H8 (cons H7 (cons H6 (cons H5 (cons H4 (cons H3 (cons H2 (cons H1 (cons H0 trivial))))))))))))))))

end Cert.Select

end
-- ==== Proof.Spec.lean ====
/-
  The mathematics that kernel and reference share, over the extended reals: the best ten configurations of a row of
  scores, the sparsemax of a row of ten numbers, and the entropy of the sparsemax rows.
-/
module

public import proofs.«01_k».proof.Proof.RoundOps

@[expose] public section

noncomputable section

namespace Cert.Spec

open Idealize.ShloMosaic Cert.Rounds

/-! ## Configurations -/

/-- The base configuration's bit at a score. -/
def base (s : EReal) : EReal := if 0 < s then 1 else 0

/-- The absolute scores of a row. -/
def mag (s : Fin 32768 → EReal) : Fin 32768 → EReal := fun k => max (s k) (-s k)

/-- What it costs to flip the subset `m` of the ten smallest absolute scores. -/
def cost (s : Fin 32768 → EReal) : Fin 1024 → EReal := fun m =>
  ∑ i : Fin 10, if (BitVec.ofNat 32 m.val).getLsbD i.val then mag s (pos (mag s) i.val) else 0

/-- Configuration `c` flips lane `j`: some position `i` is at `j` and belongs to the `c`-th cheapest subset. -/
def Flips (s : Fin 32768 → EReal) (c : ℕ) (j : Fin 32768) : Prop :=
  ∃ i : Fin 10, pos (mag s) i.val = j ∧ (BitVec.ofNat 32 (pos (cost s) c).val).getLsbD i.val = true

open Classical in
/-- Bit `j` of the `c`-th best configuration of a row. -/
def conf (s : Fin 32768 → EReal) (c : ℕ) (j : Fin 32768) : EReal :=
  if Flips s c j then 1 - base (s j) else base (s j)

/-! ## Sparsemax -/

/-- The `r`-th largest of ten numbers. -/
def srt (z : Fin 10 → EReal) (r : ℕ) : EReal := z (pos (fun k => -z k) r)

/-- The sum of the `r + 1` largest. -/
def csum (z : Fin 10 → EReal) (r : ℕ) : EReal := ∑ i ∈ Finset.range (r + 1), srt z i

/-- Rank `r` is in the support. -/
def Sup (z : Fin 10 → EReal) (r : ℕ) : Prop := csum z r < 1 + ((r + 1 : ℕ) : EReal) * srt z r

instance (z : Fin 10 → EReal) : DecidablePred (Sup z) := fun _ => Classical.propDecidable _

/-- How many of the first `n` ranks are in the support. -/
def cnt (z : Fin 10 → EReal) (n : ℕ) : ℕ := ((Finset.range n).filter (Sup z)).card

/-- The threshold. -/
def thr (z : Fin 10 → EReal) : EReal := Ideal.div (csum z (cnt z 10 - 1) - 1) ((cnt z 10 : ℕ) : EReal)

/-- The sparsemax. -/
def dist (z : Fin 10 → EReal) (k : Fin 10) : EReal := max (z k - thr z) 0

/-- One term of the entropy. -/
def plogp (d : EReal) : EReal := if 0 < d then d * Ideal.log (if 0 < d then d else 1) else 0

/-- The mean entropy of the rows. -/
def ent (z : Fin 64 → Fin 10 → EReal) : EReal := Ideal.div (-(∑ b, ∑ k, plogp (dist (z b) k))) 64

theorem cnt_succ (z : Fin 10 → EReal) (n : ℕ) : cnt z (n + 1) = cnt z n + if Sup z n then 1 else 0 := by
  unfold cnt
  rw [Finset.range_add_one, Finset.filter_insert]
  by_cases h : Sup z n
  · rw [if_pos h, if_pos h, Finset.card_insert_of_notMem (by simp)]
  · rw [if_neg h, if_neg h]; rfl

theorem cnt_le (z : Fin 10 → EReal) (n : ℕ) : cnt z n ≤ n :=
  (Finset.card_filter_le _ _).trans (Finset.card_range n).le

/-- The largest of ten finite numbers is in the support. -/
theorem one_le_cnt (z : Fin 10 → EReal) (hb : ∀ k, ⊥ < z k) (ht : ∀ k, z k < ⊤) : 1 ≤ cnt z 10 := by
  refine Finset.card_pos.2 ⟨0, Finset.mem_filter.2 ⟨by simp, ?_⟩⟩
  unfold Sup csum srt
  obtain ⟨x, hx⟩ : ∃ x : ℝ, z (pos (fun k => -z k) 0) = x :=
    ⟨_, (EReal.coe_toReal (ht _).ne (hb _).ne').symm⟩
  simp only [zero_add, Finset.range_one, Finset.sum_singleton, Nat.cast_one, one_mul]
  rw [hx]
  exact_mod_cast (by linarith : x < 1 + x)

end Cert.Spec

end
-- ==== Proof.Materialize.lean ====
/-
  What one grid point of the materialize region computes: the configuration bits of its eight rows.
-/
module

public import proofs.«01_k».proof.Proof.Select
public import proofs.«01_k».proof.Proof.Spec

@[expose] public section

set_option maxRecDepth 16384

noncomputable section

namespace Cert.Materialize

open Idealize.ShloMosaic Idealize.ShloMosaic.Pipeline
open Cert.KernelIdeal Cert.KernelIdeal.Gen
open Cert.Spec (base)

/-! ## The body's words -/

/-- Where the scalar reads of row `r` of the point's block and of column `c` look. -/
def off (i : grid1.Coords) (r : BitVec 32) (c : ℕ) : Fin 2 → ℕ :=
  ![(Scalar.indexCast (Scalar.addi (Scalar.muli (BitVec.ofNat 32 (i 0).val) 8#32) r)).toNat, c]

/-- Row `r` of the point's block is row `8 i + r` of the table. -/
theorem off_row (i : grid1.Coords) (r : Fin 8) (c : ℕ) : off i (BitVec.ofNat 32 r) c = ![8 * (i 0).val + r.val, c] := by
  have hi : (i 0).val < 8 := (i 0).isLt
  have hr := r.isLt
  unfold off
  congr 1
  show (BitVec.ofNat 32 (i 0).val * 8#32 + BitVec.ofNat 32 r).toNat = _
  simp only [BitVec.toNat_add, BitVec.toNat_mul, BitVec.toNat_ofNat]
  omega

theorem off_inb (i : grid1.Coords) (r : Fin 8) (c : Fin 10) :
    ∀ a, off i (BitVec.ofNat 32 r) c a + S1x1.size a ≤ S64x16.size a := by
  have hi : (i 0).val < 8 := (i 0).isLt
  have hr := r.isLt
  have hc := c.isLt
  intro a
  rw [off_row]
  fin_cases a
  · show 8 * (i 0).val + r.val + 1 ≤ 64
    omega
  · show c.val + 1 ≤ 16
    omega

/-- The scalar read of row `r`, column `c` of a table. -/
def scal (i : grid1.Coords) (arg : Memref sig .tc .smem S64x16 .i32) (harg : arg.IsWhole) (x : Vec Ideal S64x16 .i32)
    (r : Fin 8) (c : Fin 10) : BitVec 32 :=
  View.readAt (Elt Ideal) arg.view (Rect.unit (s := S64x16) (off i (BitVec.ofNat 32 r) c) S1x1.size (off_inb i r c)).toLoadRect
    (harg.unread x) (Shape.Idx.first (numel1_S1x1 ▸ Nat.one_pos))

/-- A column holding `f r` in row `r`, for the first `n` rows, and zero in the others. -/
def colTo (f : Fin 8 → BitVec 32) : (n : ℕ) → n ≤ 8 → IVec S8x1 32
  | 0, _ => broadcast S8x1 0#32
  | n + 1, h => select (cmpi .eq (iota .tc S8x1 32 [0] iota_S8x1_d0_w32) (broadcast S8x1 (BitVec.ofNat 32 n)))
      (broadcast S8x1 (f ⟨n, h⟩)) (colTo f n (Nat.le_of_succ_le h))

/-- The word whose bit `c` is bit `i` of `m c`, for the first `n` columns. -/
def wordTo (m : Fin 10 → BitVec 32) (i : BitVec 32) : (n : ℕ) → n ≤ 10 → BitVec 32
  | 0, _ => 0#32
  | n + 1, h => Scalar.ori (wordTo m i n (Nat.le_of_succ_le h))
      (Scalar.shli (Scalar.andi (Scalar.shrsi (m ⟨n, h⟩) i) 1#32) (BitVec.ofNat 32 n))

/-- The lanes' words after `n` of the ten positions are written. -/
def codeTo (p m : Fin 8 → Fin 10 → BitVec 32) : (n : ℕ) → n ≤ 10 → IVec S8x32768 32
  | 0, _ => broadcast S8x32768 0#32
  | n + 1, h => select (cmpi .eq (iota .tc S8x32768 32 [1] iota_S8x32768_d1_w32)
        (broadcastTo S8x32768 (colTo (fun r => p r ⟨n, h⟩) 8 (le_refl 8)) broadcasts_S8x1_S8x32768))
      (broadcastTo S8x32768 (shapeCast S8x1 (colTo (fun r => wordTo (m r) (BitVec.ofNat 32 n) 10 (le_refl 10)) 8 (le_refl 8))
        shapeCasts_S8x1_S8x1) broadcasts_S8x1_S8x32768)
      (codeTo p m n (Nat.le_of_succ_le h))

/-- Slab `c` of the output block: the base configuration, flipped where bit `c` of the lane's word is set. -/
def slab (code : IVec S8x32768 32) (s : Vec Ideal S8x32768 .f32) (c : BitVec 32) : FVec Ideal S1x8x32768 .f32 :=
  shapeCast S1x8x32768 (select (cmpi .eq (andi (shrsi code (broadcast S8x32768 c)) (broadcast S8x32768 1#32))
    (broadcast S8x32768 1#32)) (k1_pay5 s) (k1_pay4 s)) shapeCasts_S8x32768_S1x8x32768

theorem slab_inb (c : ℕ) (h : c < 10) : ∀ a, (![c, 0, 0] : Fin 3 → ℕ) a + S1x8x32768.size a ≤ S10x8x32768.size a := by
  intro a
  fin_cases a
  · show c + 1 ≤ 10
    omega
  · exact le_refl _
  · exact le_refl _

/-- The stores of the first `n` slabs, the last one first. -/
def slabs (code : IVec S8x32768 32) (s : Vec Ideal S8x32768 .f32) :
    (n : ℕ) → n ≤ 10 → List (View.Piece (Elt Ideal) S10x8x32768 .f32)
  | 0, _ => []
  | n + 1, h => ⟨Rect.unit (s := S10x8x32768) ![n, 0, 0] S1x8x32768.size (slab_inb n h), slab code s (BitVec.ofNat 32 n)⟩
      :: slabs code s n (Nat.le_of_succ_le h)

/-- The body's ten stores. -/
theorem run_pieces (c : Dev nD) (i : grid1.Coords) (arg1 : Memref sig .tc .smem S64x16 .i32) (harg1 : arg1.IsWhole)
    (arg2 : Memref sig .tc .smem S64x16 .i32) (harg2 : arg2.IsWhole) (arg3 : Memref sig .tc .vmem S8x32768 .f32)
    (harg3 : arg3.IsWhole) (arg4 : Memref sig .tc .vmem S10x8x32768 .f32) (harg4 : arg4.IsWhole)
    (x0 : Vec Ideal S64x16 .i32) (x1 : Vec Ideal S64x16 .i32) (x2 : Vec Ideal S8x32768 .f32) :
    (kernelRun1_A c i arg1 harg1 arg2 harg2 arg3 harg3 arg4 harg4 x0 x1 x2).1
      = slabs (codeTo (scal i arg1 harg1 x0) (scal i arg2 harg2 x1) 10 (le_refl 10))
          (View.readAt (Elt Ideal) arg3.view (Rect.unit (s := S8x32768) ![0, 0] S8x32768.size inb_S8x32768_S8x32768_0_0).toLoadRect
            (harg3.unread x2)) 10 (le_refl 10) := by
  sl_kernel_rfl

/-! ## Their values -/

theorem scal_eq (i : grid1.Coords) (arg : Memref sig .tc .smem S64x16 .i32) (harg : arg.IsWhole) (x : Vec Ideal S64x16 .i32)
    (r : Fin 8) (c : Fin 10) (g : Fin 8) (hg : (i 0).val = g.val) :
    scal i arg harg x r c = x (ix2 ⟨8 * g.val + r.val, by omega⟩ ⟨c.val, by omega⟩) := by
  unfold scal
  rw [View.readAt_eq_ld, harg.read_unread]
  refine congrArg x (funext fun a => Fin.ext ?_)
  have e := off_row i r c
  rw [hg] at e
  fin_cases a
  · show off i (BitVec.ofNat 32 r) c 0 + 1 * 0 = 8 * g.val + r.val
    rw [e]; rfl
  · show off i (BitVec.ofNat 32 r) c 1 + 1 * 0 = c.val
    rw [e]; rfl

theorem colTo_apply (f : Fin 8 → BitVec 32) (n : ℕ) (hn : n ≤ 8) (r : Fin 8) :
    colTo f n hn (ix2 r 0) = if r.val < n then f r else 0#32 := by
  induction n with
  | zero => rfl
  | succ n ih =>
    have hr : iota .tc S8x1 32 [0] iota_S8x1_d0_w32 (ix2 r 0) = BitVec.ofNat 32 r := iota_single_apply _ _ _ _ _ _
    show Scalar.select (IntOp.cmpi .eq (iota .tc S8x1 32 [0] iota_S8x1_d0_w32 (ix2 r 0)) (BitVec.ofNat 32 n)) (f ⟨n, hn⟩)
      (colTo f n (Nat.le_of_succ_le hn) (ix2 r 0)) = _
    rw [hr, ih]
    have hlt := r.isLt
    have key : IntOp.cmpi .eq (BitVec.ofNat 32 r.val) (BitVec.ofNat 32 n) = BitVec.ofBool (decide (r.val = n)) := by
      show BitVec.ofBool _ = _
      congr 1
      rw [beq_eq_decide]
      refine decide_eq_decide.2 ⟨fun h => ?_, fun h => by rw [h]⟩
      have := congrArg BitVec.toNat h
      simp only [BitVec.toNat_ofNat] at this
      omega
    rw [key]
    by_cases h : r.val = n
    · rw [if_pos (by omega : r.val < n + 1), show decide (r.val = n) = true from decide_eq_true h]
      show f ⟨n, hn⟩ = f r
      exact congrArg f (Fin.ext h.symm)
    · rw [show decide (r.val = n) = false from decide_eq_false h]
      show (if r.val < n then f r else 0#32) = _
      by_cases h' : r.val < n
      · rw [if_pos h', if_pos (by omega)]
      · rw [if_neg h', if_neg (by omega)]

theorem wordTo_bit (m : Fin 10 → BitVec 32) (i : ℕ) (hi : i < 32) (n : ℕ) (hn : n ≤ 10) (c : Fin 10) :
    (wordTo m (BitVec.ofNat 32 i) n hn).getLsbD c = (decide (c.val < n) && (m c).getLsbD i) := by
  induction n with
  | zero => simp [wordTo]
  | succ n ih =>
    have hc := c.isLt
    have e : IntOp.shli .scalar (IntOp.andi (IntOp.shrsi .scalar (m ⟨n, hn⟩) (BitVec.ofNat 32 i)) 1#32) (BitVec.ofNat 32 n)
        = (if (m ⟨n, hn⟩).getLsbD i then 1#32 else 0#32) <<< n := by
      rw [Words.bit_word _ _ _ hi]
      have hn' : (BitVec.ofNat 32 n).toNat = n := by simp; omega
      unfold IntOp.shli
      rw [if_pos (by omega), BitVec.shiftLeft_eq', hn']
    show (wordTo m (BitVec.ofNat 32 i) n _ ||| IntOp.shli .scalar (IntOp.andi (IntOp.shrsi .scalar (m ⟨n, hn⟩) (BitVec.ofNat 32 i)) 1#32)
      (BitVec.ofNat 32 n)).getLsbD c = _
    rw [e, BitVec.getLsbD_or, ih, BitVec.getLsbD_shiftLeft]
    by_cases h : c.val = n
    · obtain rfl : c = ⟨n, hn⟩ := Fin.ext h
      cases hb : (m ⟨n, hn⟩).getLsbD i <;> simp <;> omega
    · by_cases h' : c.val < n
      · have : c.val < n + 1 := by omega
        simp [h', this]
      · have h1 : ¬ c.val < n + 1 := by omega
        have h2 : c.val - n ≠ 0 := by omega
        cases hb : (m ⟨n, hn⟩).getLsbD i <;> simp [h', h1, h2] <;> omega

/-- The columns that the ten positions write at row `r`. -/
theorem codeTo_apply (p m : Fin 8 → Fin 10 → BitVec 32) (n : ℕ) (hn : n ≤ 10) (hn' : n < 10) (r : Fin 8) (j : Fin 32768) :
    codeTo p m (n + 1) hn' (ix2 r j) = if BitVec.ofNat 32 j = p r ⟨n, hn'⟩
      then wordTo (m r) (BitVec.ofNat 32 n) 10 (le_refl 10) else codeTo p m n hn (ix2 r j) := by
  have hj : iota .tc S8x32768 32 [1] iota_S8x32768_d1_w32 (ix2 r j) = BitVec.ofNat 32 j := iota_single_apply _ _ _ _ _ _
  show Scalar.select (IntOp.cmpi .eq (iota .tc S8x32768 32 [1] iota_S8x32768_d1_w32 (ix2 r j))
      (broadcastTo S8x32768 (colTo (fun r => p r ⟨n, hn'⟩) 8 (le_refl 8)) broadcasts_S8x1_S8x32768 (ix2 r j)))
    (broadcastTo S8x32768 (shapeCast S8x1 (colTo (fun r => wordTo (m r) (BitVec.ofNat 32 n) 10 (le_refl 10)) 8 (le_refl 8))
      shapeCasts_S8x1_S8x1) broadcasts_S8x1_S8x32768 (ix2 r j))
    (codeTo p m n hn (ix2 r j)) = _
  rw [hj, RoundOps.bcol_apply, RoundOps.bcol_apply, shapeCast_self, colTo_apply, colTo_apply, if_pos r.isLt, if_pos r.isLt]
  by_cases h : BitVec.ofNat 32 j = p r ⟨n, hn'⟩
  · rw [if_pos h, show IntOp.cmpi .eq (BitVec.ofNat 32 j.val) (p r ⟨n, hn'⟩) = 1#1 by
      rw [StableHlo.Predicate.cmpi_eq_iff]; exact h]
    rfl
  · rw [if_neg h, show IntOp.cmpi .eq (BitVec.ofNat 32 j.val) (p r ⟨n, hn'⟩) = 0#1 by
      show BitVec.ofBool _ = _
      rw [beq_eq_false_iff_ne.2 h]; rfl]
    rfl

/-- At a lane that position `i` names, and no other position does, the word is position `i`'s. -/
theorem codeTo_hit (p m : Fin 8 → Fin 10 → BitVec 32) (r : Fin 8) (j : Fin 32768) (i : Fin 10)
    (hi : BitVec.ofNat 32 j = p r i) (hne : ∀ i', BitVec.ofNat 32 j = p r i' → i' = i) (n : ℕ) (hn : n ≤ 10) (hin : i.val < n) :
    codeTo p m n hn (ix2 r j) = wordTo (m r) (BitVec.ofNat 32 i) 10 (le_refl 10) := by
  induction n with
  | zero => omega
  | succ n ih =>
    rw [codeTo_apply p m n (Nat.le_of_succ_le hn) hn]
    by_cases h : i.val = n
    · obtain rfl : i = ⟨n, hn⟩ := Fin.ext h
      rw [if_pos hi]
    · rw [if_neg fun e => h (congrArg Fin.val (hne _ e)).symm, ih _ (by omega)]

/-- At a lane that no position names the word is zero. -/
theorem codeTo_miss (p m : Fin 8 → Fin 10 → BitVec 32) (r : Fin 8) (j : Fin 32768)
    (hne : ∀ i, BitVec.ofNat 32 j ≠ p r i) (n : ℕ) (hn : n ≤ 10) : codeTo p m n hn (ix2 r j) = 0#32 := by
  induction n with
  | zero => rfl
  | succ n ih => rw [codeTo_apply p m n (Nat.le_of_succ_le hn) hn, if_neg (hne _), ih]

theorem pay4_apply (s : Vec Ideal S8x32768 .f32) (x : S8x32768.Idx) : k1_pay4 s x = base (s x) := by
  show (((BitVec.setWidth 32 (Ideal.cmp .ogt (s x) (FloatOps.ofBits (F := Ideal) .f32 0x00000000#32))).toInt : ℝ) : EReal) = _
  rw [show FloatOps.ofBits (F := Ideal) .f32 0x00000000#32 = (0 : EReal) from Ideal.ofBits_zero_f32]
  show (((BitVec.setWidth 32 (BitVec.ofBool (decide ((0 : EReal) < s x)))).toInt : ℝ) : EReal) = _
  unfold base
  by_cases h : (0 : EReal) < s x
  · rw [if_pos h, decide_eq_true h, show (BitVec.setWidth 32 (BitVec.ofBool true)).toInt = 1 from rfl]; norm_num
  · rw [if_neg h, decide_eq_false h, show (BitVec.setWidth 32 (BitVec.ofBool false)).toInt = 0 from rfl]; norm_num

theorem pay5_apply (s : Vec Ideal S8x32768 .f32) (x : S8x32768.Idx) : k1_pay5 s x = (1 - base (s x) : EReal) := by
  show (FloatOps.ofBits (F := Ideal) .f32 0x3F800000#32 - k1_pay4 s x : EReal) = _
  rw [pay4_apply]
  congr 1
  exact Ideal.ofBits_one_f32

theorem slab_apply (code : IVec S8x32768 32) (s : Vec Ideal S8x32768 .f32) (c : Fin 10) (r : Fin 8) (j : Fin 32768) :
    slab code s (BitVec.ofNat 32 c) (ix3 0 r j)
      = if (code (ix2 r j)).getLsbD c then (1 - base (s (ix2 r j)) : EReal) else base (s (ix2 r j)) := by
  have hc := c.isLt
  unfold slab
  refine (shapeCast_apply _ _ _ (ix2 r j) ?_).trans ?_
  · rw [Shape.rowMajor_val_two, Shape.rowMajor_val_three]
    show r.val * 32768 + j.val = ((0 : ℕ) * 8 + r.val) * 32768 + j.val
    omega
  show Scalar.select (IntOp.cmpi .eq (IntOp.andi (IntOp.shrsi .vector (code (ix2 r j)) (BitVec.ofNat 32 c)) 1#32) 1#32)
    (k1_pay5 s (ix2 r j)) (k1_pay4 s (ix2 r j)) = _
  rw [Words.bit_word _ _ _ (by omega), pay4_apply, pay5_apply]
  cases (code (ix2 r j)).getLsbD c <;> rfl

/-- The output block as one function of its index. -/
def block (code : IVec S8x32768 32) (s : Vec Ideal S8x32768 .f32) : Vec Ideal S10x8x32768 .f32 := fun y =>
  if (code (ix2 (y 1) (y 2))).getLsbD (y 0).val then (1 - base (s (ix2 (y 1) (y 2))) : EReal) else base (s (ix2 (y 1) (y 2)))

theorem slabs_block (code : IVec S8x32768 32) (s : Vec Ideal S8x32768 .f32) (n : ℕ) (hn : n ≤ 10) :
    View.PiecesOf (block code s) (slabs code s n hn) := by
  induction n with
  | zero => trivial
  | succ n ih =>
    refine Select.cons (fun x => ?_) (ih _)
    have key : ∀ x : S1x8x32768.Idx, slab code s (BitVec.ofNat 32 n) x
        = block code s ((Rect.unit (s := S10x8x32768) ![n, 0, 0] S1x8x32768.size (slab_inb n hn)).emb x) := fun x => by
      have hx : x = ix3 0 (x 1) (x 2) := by
        funext a; fin_cases a
        · exact Subsingleton.elim (α := Fin 1) _ _
        · rfl
        · rfl
      have e : (Rect.unit (s := S10x8x32768) ![n, 0, 0] S1x8x32768.size (slab_inb n hn)).emb x
          = ix3 ⟨n, hn⟩ (x 1) (x 2) := by
        have e0 : (x 0).val = 0 := by have h0 : (x 0).val < 1 := (x 0).isLt; omega
        funext a
        refine Fin.ext ?_
        fin_cases a
        · show n + 1 * (x 0).val = n
          omega
        · show 0 + 1 * (x 1).val = (x 1).val
          omega
        · show 0 + 1 * (x 2).val = (x 2).val
          omega
      rw [e]
      exact (congrArg (slab code s (BitVec.ofNat 32 n)) hx).trans (slab_apply code s ⟨n, hn⟩ (x 1) (x 2))
    exact key x

variable (V : (c : Dev nD) → (b : Ref sig .tc) → Buf (Elt Ideal) (c.tc.loc b))

/-- What the output's staging block holds after a grid point. -/
theorem outsAt1_eq (c : Dev nD) (t : Fin cfg1.N) :
    outsAt1 V c t = block (codeTo (scal (grid1.coords t) (ms1_0 t) (hs1_0 t) (iblk1 V c 0 t))
      (scal (grid1.coords t) (ms1_1 t) (hs1_1 t) (iblk1 V c 1 t)) 10 (le_refl 10)) (iblk1 V c 2 t) := by
  have hc := cover1_A_3 (F := Ideal) c (grid1.coords t) (ms1_0 t) (hs1_0 t) (ms1_1 t) (hs1_1 t) (ms1_2 t) (hs1_2 t) (ms1_3 t) (hs1_3 t)
    (iblk1 V c 0 t) (iblk1 V c 1 t) (iblk1 V c 2 t)
  unfold outsAt1 out1_A_3
  rw [View.read_writes_eq_canon _ _ _ hc]
  rw [run_pieces] at hc ⊢
  have hs : View.readAt (Elt Ideal) (ms1_2 t).view (Rect.unit (s := S8x32768) ![0, 0] S8x32768.size inb_S8x32768_S8x32768_0_0).toLoadRect
      ((hs1_2 t).unread (iblk1 V c 2 t)) = iblk1 V c 2 t := by
    rw [View.readAt_eq_ld, (hs1_2 t).read_unread]
    refine View.ld_unit_zero ?_ _ _
    funext a; fin_cases a <;> rfl
  rw [hs] at hc ⊢
  funext y
  exact View.canon_apply_of_pieces _ _ (View.PiecesOf.mem (slabs_block _ _ 10 (le_refl 10))) y (hc y)

end Cert.Materialize

end
-- ==== Proof.Arrays.lean ====
/-
  The arrays after the kernel's run, region by region.
-/
module

public import proofs.«01_k».proof.Proof.Materialize
public import Idealize.ShloMosaic.Lib.Pipeline.ValueKit

@[expose] public section

set_option maxRecDepth 16384

noncomputable section

namespace Cert.Arrays

open Idealize.ShloMosaic Idealize.ShloMosaic.TcCoe Idealize.ShloMosaic.Pipeline
open Cert.KernelIdeal Cert.KernelIdeal.Gen
open Cert.Rounds Cert.RoundOps Cert.Spec Cert.Select Cert.Materialize

variable (V : (c : Dev nD) → (b : Ref sig .tc) → Buf (Elt Ideal) (c.tc.loc b))

/-! ## The selection region: one point, whole arrays -/

theorem iblk0_eq (c : Dev nD) (t : Fin cfg0.N) : iblk0 V c 0 t = V c main_arg0 := by
  have e : ∀ t : Fin cfg0.N, win0_0.index t = ![0, 0] := by decide +kernel
  funext y
  blk_ext [iblk0, e]

theorem arr0_1 (c : Dev nD) : (dat0 V c).arrAt 1 cfg0.N = out0_1 (V c main_arg0) := by
  refine (dat0 V c).arrAt_eq_of_covers 1 _ (by decide +kernel) fun t hf y => ?_
  have e : ∀ t : Fin cfg0.N, win0_1.index t = ![0, 0] := by decide +kernel
  rw [after0_1, iblk0_eq]
  blk_ext [e t]

theorem arr0_2 (c : Dev nD) : (dat0 V c).arrAt 2 cfg0.N = out0_2 (V c main_arg0) := by
  refine (dat0 V c).arrAt_eq_of_covers 2 _ (by decide +kernel) fun t hf y => ?_
  have e : ∀ t : Fin cfg0.N, win0_2.index t = ![0, 0] := by decide +kernel
  rw [after0_2, iblk0_eq]
  blk_ext [e t]

/-! ## The sparsemax region: one point, whole arrays -/

theorem iblk2_eq (c : Dev nD) (t : Fin cfg2.N) : iblk2 V c 0 t = V c main_v3 := by
  have e : ∀ t : Fin cfg2.N, win2_0.index t = ![0, 0] := by decide +kernel
  funext y
  blk_ext [iblk2, e]

theorem arr2_1 (c : Dev nD) : (dat2 V c).arrAt 1 cfg2.N = out2_1 (V c main_v3) := by
  refine (dat2 V c).arrAt_eq_of_covers 1 _ (by decide +kernel) fun t hf y => ?_
  have e : ∀ t : Fin cfg2.N, win2_1.index t = ![0, 0] := by decide +kernel
  rw [after2_1, iblk2_eq]
  blk_ext [e t]

theorem arr2_2 (c : Dev nD) : (dat2 V c).arrAt 2 cfg2.N = out2_2 (V c main_v3) := by
  refine (dat2 V c).arrAt_eq_of_covers 2 _ (by decide +kernel) fun t hf y => ?_
  have e : ∀ t : Fin cfg2.N, win2_2.index t = ![0, 0] := by decide +kernel
  rw [after2_2, iblk2_eq]
  blk_ext [e t]

/-! ## The materialize region: eight rows a point -/

theorem iblk1_0 (c : Dev nD) (t : Fin cfg1.N) : iblk1 V c 0 t = V c main_v0_0 := by
  have e : ∀ t : Fin cfg1.N, win1_0.index t = ![0, 0] := by decide +kernel
  funext y
  blk_ext [iblk1, e]

theorem iblk1_1 (c : Dev nD) (t : Fin cfg1.N) : iblk1 V c 1 t = V c main_v0_1 := by
  have e : ∀ t : Fin cfg1.N, win1_1.index t = ![0, 0] := by decide +kernel
  funext y
  blk_ext [iblk1, e]

theorem iblk1_2 (c : Dev nD) (t : Fin cfg1.N) (r : Fin 8) (j : Fin 32768) :
    iblk1 V c 2 t (ix2 r j) = V c main_arg0 (ix2 ⟨8 * t.val + r.val, by have := t.isLt; change t.val < 8 at this; omega⟩ j) := by
  have e : ∀ t : Fin cfg1.N, win1_2.index t = ![t.val, 0] := by decide +kernel
  blk_ext [iblk1, e]

/-- What one row's words give: bit `j` of configuration `c`. -/
theorem code_conf (s : Fin 32768 → EReal) (hs : ∀ k, mag s k < ⊤) (p m : Fin 8 → Fin 10 → BitVec 32) (r : Fin 8)
    (hp : ∀ i : Fin 10, p r i = BitVec.ofNat 32 (pos (mag s) i.val))
    (hm : ∀ i : Fin 10, m r i = BitVec.ofNat 32 (pos (cost s) i.val)) (c : Fin 10) (j : Fin 32768) :
    (if (codeTo p m 10 (le_refl 10) (ix2 r j)).getLsbD c.val then 1 - base (s j) else base (s j)) = conf s c.val j := by
  have hw : ∀ i : Fin 10, BitVec.ofNat 32 j = p r i ↔ pos (mag s) i.val = j := fun i => by
    rw [hp]
    constructor
    · intro e
      have e' := congrArg BitVec.toNat e
      have h1 := j.isLt
      have h2 := (pos (mag s) i.val).isLt
      simp only [BitVec.toNat_ofNat] at e'
      exact Fin.ext (by omega)
    · intro e; rw [e]
  unfold conf
  by_cases h : ∃ i : Fin 10, pos (mag s) i.val = j
  · obtain ⟨i, hi⟩ := h
    have hne : ∀ i' : Fin 10, pos (mag s) i'.val = j → i' = i := fun i' e =>
      Fin.ext (pos_injective (mag s) hs (by omega) (by omega) (e.trans hi.symm))
    rw [codeTo_hit p m r j i ((hw i).2 hi) (fun i' e => hne i' ((hw i').1 e)) 10 (le_refl 10) i.isLt,
      wordTo_bit (m r) i.val (by omega) 10 (le_refl 10) c, hm]
    have hf : Flips s c.val j ↔ (BitVec.ofNat 32 (pos (cost s) c.val).val).getLsbD i.val = true := by
      constructor
      · rintro ⟨i', e, hb⟩; rw [hne i' e] at hb; exact hb
      · exact fun hb => ⟨i, hi, hb⟩
    by_cases hb : (BitVec.ofNat 32 (pos (cost s) c.val).val).getLsbD i.val = true
    · rw [if_pos (hf.2 hb), if_pos (by simp [hb, c.isLt])]
    · rw [if_neg fun h => hb (hf.1 h), if_neg (by simp [hb])]
  · rw [codeTo_miss p m r j (fun i e => h ⟨i, (hw i).1 e⟩) 10 (le_refl 10), if_neg (by simp),
      if_neg fun ⟨i, e, _⟩ => h ⟨i, e⟩]

variable {V}

/-! ## The two tables -/

/-- Table one: row `b`'s positions of the ten smallest absolute scores. -/
theorem tab_idx (s : Vec Ideal S64x32768 .f32) (b : Fin 64) (i : Fin 10) :
    out0_1 s (ix2 b ⟨i.val, by omega⟩) = BitVec.ofNat 32 (pos (mag (row s b)) i.val) := by
  rw [out1_eq]
  exact (if_pos i.isLt).trans (st_lane (by decide) sdN (absA s) b i.val)

/-- Row `b`'s subset sums are its costs. -/
theorem row_sums (s : Vec Ideal S64x32768 .f32) (hs : ∀ b k, mag (row s b) k < ⊤) (b : Fin 64) :
    row (sumsA s) b = cost (row s b) := by
  funext k
  refine (sumsTo_apply (low sdN (absA s)) 10 (by omega) b k).trans (Finset.sum_congr rfl fun i _ => ?_)
  rw [show low sdN (absA s) i (ix2 b 0) = mag (row s b) (pos (mag (row s b)) i.val) from
    st_min (by decide) sdN (absA s) b (hs b) i.val (by omega)]

/-- Table two: row `b`'s ten cheapest subsets. -/
theorem tab_mcode (s : Vec Ideal S64x32768 .f32) (hs : ∀ b k, mag (row s b) k < ⊤) (b : Fin 64) (i : Fin 10) :
    out0_2 s (ix2 b ⟨i.val, by omega⟩) = BitVec.ofNat 32 (pos (cost (row s b)) i.val) := by
  rw [out2_eq, ← row_sums s hs b]
  exact (if_pos i.isLt).trans (st_lane (by decide) sdM (sumsA s) b i.val)

/-- One element of the block that one point of the materialize region leaves. -/
theorem point1 (c : Dev nD) (s : Vec Ideal S64x32768 .f32) (hs : ∀ b k, mag (row s b) k < ⊤)
    (h0 : V c main_arg0 = s) (h1 : V c main_v0_0 = out0_1 s) (h2 : V c main_v0_1 = out0_2 s) (t : Fin cfg1.N)
    (k : Fin 10) (r : Fin 8) (j : Fin 32768) (hb : 8 * t.val + r.val < 64) :
    outsAt1 V c t (ix3 k r j) = conf (row s ⟨8 * t.val + r.val, hb⟩) k.val j := by
  have hg : ∀ t : Fin cfg1.N, ((grid1.coords t) 0).val = t.val := by decide +kernel
  have e0 := iblk1_0 V c t
  have e1 := iblk1_1 V c t
  have e2 := iblk1_2 V c t r j
  rw [h0] at e2
  rw [h1] at e0
  rw [h2] at e1
  rw [outsAt1_eq, e0, e1]
  have key := code_conf (row s ⟨8 * t.val + r.val, hb⟩) (hs _)
    (scal (grid1.coords t) (ms1_0 t) (hs1_0 t) (out0_1 s)) (scal (grid1.coords t) (ms1_1 t) (hs1_1 t) (out0_2 s)) r
    (fun i => (scal_eq _ _ _ _ _ _ ⟨t.val, t.isLt⟩ (hg t)).trans (tab_idx s _ i))
    (fun i => (scal_eq _ _ _ _ _ _ ⟨t.val, t.isLt⟩ (hg t)).trans (tab_mcode s hs _ i)) k j
  refine Eq.trans ?_ key
  show (if _ then (1 - base (iblk1 V c 2 t (ix2 r j)) : EReal) else base (iblk1 V c 2 t (ix2 r j))) = _
  rw [e2]
  rfl

/-- The materialize region's array, given the two tables that the selection region leaves. -/
theorem arr1_3 (c : Dev nD) (s : Vec Ideal S64x32768 .f32) (hs : ∀ b k, mag (row s b) k < ⊤)
    (h0 : V c main_arg0 = s) (h1 : V c main_v0_0 = out0_1 s) (h2 : V c main_v0_1 = out0_2 s) :
    (dat1 V c).arrAt 3 cfg1.N = (fun i : S10x64x32768.Idx => conf (row s (i 1)) (i 0).val (i 2)) := by
  refine (dat1 V c).arrAt_eq_of_covers 3 _ (by decide +kernel) fun t hf y => ?_
  have e : ∀ t : Fin cfg1.N, win1_3.index t = ![0, t.val, 0] := by decide +kernel
  have hb : 8 * t.val + (y 1).val < 64 := by
    have := t.isLt; change t.val < 8 at this
    have := (y 1).isLt; change (y 1).val < 8 at this
    omega
  have hG : (((cfg1.win 3).blk t).view.emb y) = (ix3 (y 0) ⟨8 * t.val + (y 1).val, hb⟩ (y 2) : S10x64x32768.Idx) := by
    blk_ext [e]
  have hy : (cfg1.win 3).xinj (cfg1.grid.coords t) y = (ix3 (y 0) (y 1) (y 2) : S10x8x32768.Idx) := by
    blk_ext
  have hp := point1 c s hs h0 h1 h2 t (y 0) (y 1) (y 2) hb
  rw [after1_3, hy, hp]
  generalize ((cfg1.win 3).blk t).view.emb y = z at hG
  subst hG
  rfl

end Cert.Arrays

end
-- ==== Proof.Sparsemax.lean ====
/-
  What the sparsemax region computes: the sparsemax of every row, and their mean entropy.
-/
module

public import proofs.«01_k».proof.Proof.Select
public import proofs.«01_k».proof.Proof.Spec

@[expose] public section

set_option maxRecDepth 16384

noncomputable section

namespace Cert.Sparsemax

open Idealize.ShloMosaic Cert.Rounds Cert.RoundOps Cert.KernelIdeal Cert.KernelIdeal.Gen

/-- The side conditions of the rounds on a block of ten columns. -/
theorem sdK : Sides 64 10 := ⟨reduces_S64x10_S64, shapeCasts_S64_S64x1, broadcasts_S64x1_S64x10, iota_S64x10_d1_w32⟩

/-! ## The body's columns -/

/-- The `r`-th largest entries. -/
def top (a : FVec Ideal S64x10 .f32) (r : ℕ) : FVec Ideal S64x1 .f32 := maxV sdK (stMax sdK a r)

/-- The running sums. -/
def cum (a : FVec Ideal S64x10 .f32) : ℕ → FVec Ideal S64x1 .f32
  | 0 => top a 0
  | r + 1 => addf (cum a r) (top a (r + 1))

/-- The float word of `r + 1`, for the ten ranks. -/
def word : ℕ → BitVec 32
  | 0 => 0x3F800000#32
  | 1 => 0x40000000#32
  | 2 => 0x40400000#32
  | 3 => 0x40800000#32
  | 4 => 0x40A00000#32
  | 5 => 0x40C00000#32
  | 6 => 0x40E00000#32
  | 7 => 0x41000000#32
  | 8 => 0x41100000#32
  | _ => 0x41200000#32

/-- Whether rank `r` is in the support. -/
def sup (a : FVec Ideal S64x10 .f32) (r : ℕ) : IVec S64x1 1 :=
  cmpf .ogt (addf (broadcast S64x1 (Scalar.ofBits .f32 0x3F800000#32)) (mulf (broadcast S64x1 (Scalar.ofBits .f32 (word r))) (top a r)))
    (cum a r)

/-- How many of the first `n` ranks are. -/
def kz (a : FVec Ideal S64x10 .f32) : ℕ → IVec S64x1 32
  | 0 => broadcast S64x1 0#32
  | r + 1 => addi (kz a r) (extui 32 (sup a r) natLt_1_32)

/-- The running sum at that count, looked for among the first `n`. -/
def tauNum (a : FVec Ideal S64x10 .f32) : ℕ → FVec Ideal S64x1 .f32
  | 0 => broadcast S64x1 (Scalar.ofBits .f32 0x00000000#32)
  | r + 1 => select (cmpi .eq (kz a 10) (broadcast S64x1 (BitVec.ofNat 32 (r + 1)))) (cum a r) (tauNum a r)

/-- The thresholds. -/
def tau (a : FVec Ideal S64x10 .f32) : FVec Ideal S64x1 .f32 :=
  divf (subf (tauNum a 10) (broadcast S64x1 (Scalar.ofBits .f32 0x3F800000#32))) (sitofp .f32 (kz a 10))

theorem pay40 (x0 : Vec Ideal S64x10 .f32) : k2_pay40 x0 = x0 := by
  unfold k2_pay40
  exact (shapeCast_self _ _).trans (View.ld_unit_zero (by funext a; fin_cases a <;> rfl) _ _)

theorem pay59 (x0 : Vec Ideal S64x10 .f32) : k2_pay59 x0 = tau (k2_pay40 x0) := by
  sl_kernel_rfl

/-! ## Their values -/

theorem word_val (r : ℕ) (hr : r < 10) : FloatOps.ofBits (F := Ideal) .f32 (word r) = (((r + 1 : ℕ) : EReal)) := by
  interval_cases r <;> simp [word, FloatOps.ofBits, Ideal.ofBits, Ideal.ieee] <;> rw [← EReal.coe_mul] <;> norm_num <;> rfl

variable (a : FVec Ideal S64x10 .f32) (b : Fin 64) (hb : ∀ k, ⊥ < row a b k) (ht : ∀ k, row a b k < ⊤)

include hb in
theorem top_apply (r : ℕ) (hr : r < 10) : top a r (ix2 b 0) = Spec.srt (row a b) r :=
  stMax_max (by decide) sdK a b hb r hr

include hb in
theorem cum_apply (r : ℕ) (hr : r < 10) : cum a r (ix2 b 0) = Spec.csum (row a b) r := by
  induction r with
  | zero => rw [cum, top_apply a b hb 0 hr, Spec.csum, zero_add, Finset.sum_range_one]
  | succ r ih =>
    show (cum a r (ix2 b 0) + top a (r + 1) (ix2 b 0) : EReal) = _
    rw [ih (by omega), top_apply a b hb _ hr, Spec.csum, Spec.csum, Finset.sum_range_succ _ (r + 1)]

include hb in
theorem sup_apply (r : ℕ) (hr : r < 10) : sup a r (ix2 b 0) = BitVec.ofBool (decide (Spec.Sup (row a b) r)) := by
  show BitVec.ofBool (decide (cum a r (ix2 b 0) < (FloatOps.ofBits (F := Ideal) .f32 0x3F800000#32
    + FloatOps.ofBits (F := Ideal) .f32 (word r) * top a r (ix2 b 0) : EReal))) = _
  rw [cum_apply a b hb r hr, top_apply a b hb r hr, word_val r hr,
    show FloatOps.ofBits (F := Ideal) .f32 0x3F800000#32 = (1 : EReal) from Ideal.ofBits_one_f32]
  congr 1
  exact decide_eq_decide.2 Iff.rfl

include hb in
theorem kz_apply (n : ℕ) (hn : n ≤ 10) : kz a n (ix2 b 0) = BitVec.ofNat 32 (Spec.cnt (row a b) n) := by
  induction n with
  | zero => rfl
  | succ n ih =>
    show kz a n (ix2 b 0) + BitVec.setWidth 32 (sup a n (ix2 b 0)) = _
    rw [ih (by omega), sup_apply a b hb n (by omega), Spec.cnt_succ]
    by_cases h : Spec.Sup (row a b) n
    · rw [if_pos h, decide_eq_true h, BitVec.ofNat_add]; rfl
    · rw [if_neg h, decide_eq_false h]; simp

include hb in
theorem tauNum_apply (n : ℕ) (hn : n ≤ 10) : tauNum a n (ix2 b 0)
    = if 1 ≤ Spec.cnt (row a b) 10 ∧ Spec.cnt (row a b) 10 ≤ n then Spec.csum (row a b) (Spec.cnt (row a b) 10 - 1) else 0 := by
  have hc := Spec.cnt_le (row a b) 10
  induction n with
  | zero => rw [if_neg (by omega)]; exact Ideal.ofBits_zero_f32
  | succ n ih =>
    show Scalar.select (IntOp.cmpi .eq (kz a 10 (ix2 b 0)) (BitVec.ofNat 32 (n + 1))) (cum a n (ix2 b 0)) (tauNum a n (ix2 b 0)) = _
    rw [kz_apply a b hb 10 (le_refl _), ih (by omega), cum_apply a b hb n (by omega)]
    by_cases h : Spec.cnt (row a b) 10 = n + 1
    · rw [h, show IntOp.cmpi .eq (BitVec.ofNat 32 (n + 1)) (BitVec.ofNat 32 (n + 1)) = 1#1 from
        StableHlo.Predicate.cmpi_eq_iff.2 rfl,
        if_pos (c := 1 ≤ n + 1 ∧ n + 1 ≤ n + 1) (by omega)]
      rfl
    · have hne : BitVec.ofNat 32 (Spec.cnt (row a b) 10) ≠ BitVec.ofNat 32 (n + 1) := fun e => h (by
        have := congrArg BitVec.toNat e
        simp only [BitVec.toNat_ofNat] at this
        omega)
      rw [show IntOp.cmpi .eq (BitVec.ofNat 32 (Spec.cnt (row a b) 10)) (BitVec.ofNat 32 (n + 1)) = 0#1 by
        show BitVec.ofBool _ = _
        rw [beq_eq_false_iff_ne.2 hne]; rfl]
      rw [show ∀ x y : EReal, Scalar.select 0#1 x y = y from fun _ _ => rfl]
      exact if_congr (by omega) rfl rfl

include hb ht in
theorem tau_apply : tau a (ix2 b 0) = Spec.thr (row a b) := by
  show Ideal.div (tauNum a 10 (ix2 b 0) - FloatOps.ofBits (F := Ideal) .f32 0x3F800000#32 : EReal)
    (((kz a 10 (ix2 b 0)).toInt : ℝ) : EReal) = _
  have hc := Spec.cnt_le (row a b) 10
  rw [tauNum_apply a b hb 10 (le_refl _), kz_apply a b hb 10 (le_refl _), if_pos ⟨Spec.one_le_cnt _ hb ht, hc⟩,
    toInt_lane _ (by omega), show FloatOps.ofBits (F := Ideal) .f32 0x3F800000#32 = (1 : EReal) from Ideal.ofBits_one_f32]
  unfold Spec.thr
  norm_cast

include hb ht in
theorem pay1_apply (k : Fin 10) : k2_pay1 a (tau a) (ix2 b k) = Spec.dist (row a b) k := by
  show max (a (ix2 b k) - broadcastTo S64x10 (tau a) broadcasts_S64x1_S64x10 (ix2 b k) : EReal)
    (FloatOps.ofBits (F := Ideal) .f32 0x00000000#32) = _
  rw [bcol_apply, tau_apply a b hb ht, show FloatOps.ofBits (F := Ideal) .f32 0x00000000#32 = (0 : EReal) from Ideal.ofBits_zero_f32]
  rfl

/-! ## The outputs -/

/-- A reshape keeps the sum of all entries. -/
theorem sum_shapeCast {s t : Shape} (x : s.Idx → EReal) (h : s.ShapeCasts t) : ∑ j, shapeCast t x h j = ∑ i, x i :=
  Equiv.sum_comp (Shape.reshapeEquiv h) x

/-- One term of the entropy, at the body's operations. -/
theorem term_eq (d : EReal) : Scalar.select (Ideal.cmp .ogt d 0) (d * Ideal.log (Scalar.select (Ideal.cmp .ogt d 0) d 1)) 0
    = Spec.plogp d := by
  show Scalar.select (BitVec.ofBool (decide (0 < d))) (d * Ideal.log (Scalar.select (BitVec.ofBool (decide (0 < d))) d 1)) 0 = _
  unfold Spec.plogp
  by_cases h : 0 < d
  · rw [decide_eq_true h, if_pos h, if_pos h]; rfl
  · rw [decide_eq_false h, if_neg h]; rfl

/-- The terms of the entropy, as the body computes them. -/
def terms (d : FVec Ideal S64x10 .f32) : FVec Ideal S64x10 .f32 :=
  select (cmpf .ogt d (broadcast S64x10 (Scalar.ofBits .f32 0x00000000#32)))
    (mulf d (log (select (cmpf .ogt d (broadcast S64x10 (Scalar.ofBits .f32 0x00000000#32))) d
      (broadcast S64x10 (Scalar.ofBits .f32 0x3F800000#32)))))
    (broadcast S64x10 (Scalar.ofBits .f32 0x00000000#32))

theorem terms_apply (d : FVec Ideal S64x10 .f32) (i : S64x10.Idx) : terms d i = Spec.plogp (d i) := by
  refine Eq.trans ?_ (term_eq (d i))
  show Scalar.select (Ideal.cmp .ogt (d i) (FloatOps.ofBits (F := Ideal) .f32 0x00000000#32))
    (d i * Ideal.log (Scalar.select (Ideal.cmp .ogt (d i) (FloatOps.ofBits (F := Ideal) .f32 0x00000000#32)) (d i)
      (FloatOps.ofBits (F := Ideal) .f32 0x3F800000#32)) : EReal) (FloatOps.ofBits (F := Ideal) .f32 0x00000000#32) = _
  rw [show FloatOps.ofBits (F := Ideal) .f32 0x00000000#32 = (0 : EReal) from Ideal.ofBits_zero_f32,
    show FloatOps.ofBits (F := Ideal) .f32 0x3F800000#32 = (1 : EReal) from Ideal.ofBits_one_f32]

theorem word64 : FloatOps.ofBits (F := Ideal) .f32 0x42800000#32 = (64 : EReal) := by
  simp [FloatOps.ofBits, Ideal.ofBits, Ideal.ieee]
  rw [← EReal.coe_mul]; norm_num; rfl

/-- The first output: the sparsemax of every row. -/
theorem out2_1_apply (x0 : Vec Ideal S64x10 .f32) (hb : ∀ b k, ⊥ < row x0 b k) (ht : ∀ b k, row x0 b k < ⊤) (b : Fin 64)
    (k : Fin 10) : out2_1 x0 (ix2 b k) = Spec.dist (row x0 b) k := by
  unfold out2_1
  rw [View.canon_cons_unit_lit _ _ _ (by intro a; fin_cases a <;> rfl), pay59, pay40]
  exact pay1_apply x0 b (hb b) (ht b) k

/-- The second output: the mean entropy. -/
theorem out2_2_apply (x0 : Vec Ideal S64x10 .f32) (hb : ∀ b k, ⊥ < row x0 b k) (ht : ∀ b k, row x0 b k < ⊤) (y : S1x1.Idx) :
    out2_2 x0 y = Spec.ent fun b => row x0 b := by
  unfold out2_2
  rw [View.canon_cons_unit_lit _ _ _ (by intro a; fin_cases a <;> rfl), pay59, pay40]
  show Ideal.div (FloatOps.ofBits (F := Ideal) .f32 0x00000000#32 - multiReduction .add [1, 2] S1 (shapeCast S1x64x10
    (terms (k2_pay1 x0 (tau x0))) shapeCasts_S64x10_S1x64x10) 0x00000000#32 reduces_S1x64x10_S1 (.inl rfl) rfl _ : EReal)
    (FloatOps.ofBits (F := Ideal) .f32 0x42800000#32) = _
  refine (congrArg (fun t : EReal => Ideal.div (FloatOps.ofBits (F := Ideal) .f32 0x00000000#32 - t)
    (FloatOps.ofBits (F := Ideal) .f32 0x42800000#32))
    (Ideal.multiReduction_add_total _ _ reduces_S1x64x10_S1 (by intro b; fin_cases b; rfl) _ _ _)).trans ?_
  rw [sum_shapeCast, word64,
    show FloatOps.ofBits (F := Ideal) .f32 0x00000000#32 = (0 : EReal) from Ideal.ofBits_zero_f32, zero_sub]
  unfold Spec.ent
  congr 2
  refine (sum_idx2 _).trans (Finset.sum_congr rfl fun b _ => Finset.sum_congr rfl fun k _ => ?_)
  rw [terms_apply]
  exact congrArg Spec.plogp (pay1_apply x0 b (hb b) (ht b) k)

end Cert.Sparsemax

end
-- ==== Proof.KRun.lean ====
/-
  The kernel's run from one launch memory: it ends with the configurations, their sparsemax and its entropy.
-/
module

public import proofs.«01_k».proof.Proof.Arrays
public import proofs.«01_k».proof.Proof.Sparsemax

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.RoundOps Cert.Spec

variable (m : (ℓ : Loc nD τ sig) → Buf (Elt Ideal) ℓ) (ρ : Dev nD → PrngReg)

/-- The scores at the launch. -/
abbrev score (c : Dev nD) : Vec Ideal S64x32768 .f32 := m ((c : Thread nD τ).loc main_arg0)

/-- The configurations, laid out as the result. -/
def confs (s : Vec Ideal S64x32768 .f32) : Vec Ideal S64x10x32768 .f32 := fun i => conf (row s (i 0)) (i 1).val (i 2)

/-- The configurations' scores. -/
def dots (s : Vec Ideal S64x32768 .f32) : Vec Ideal S64x10 .f32 :=
  Host.dotGeneral (F := Ideal) (φ₁ := .f32) (φ₂ := .f32) dot_S64x10x32768_S64x32768_S64x10_2_1_1_n_0_0 none (confs s) s

/-! ## The buffers at the run's boundaries -/

theorem W1_idx (c : Dev nD) : W1 m ρ c (Proc.devRef .tc main_v0_0) = out0_1 (score m c) :=
  (W1_arr m ρ c 1).trans (Arrays.arr0_1 (V0 m ρ) c)

theorem W1_mcode (c : Dev nD) : W1 m ρ c (Proc.devRef .tc main_v0_1) = out0_2 (score m c) :=
  (W1_arr m ρ c 2).trans (Arrays.arr0_2 (V0 m ρ) c)

theorem W2_conf (c : Dev nD) (hs : ∀ b k, mag (row (score m c) b) k < ⊤) :
    W2 m ρ c (Proc.devRef .tc main_v1) = (fun i : S10x64x32768.Idx => conf (row (score m c) (i 1)) (i 0).val (i 2)) :=
  (W2_arr m ρ c 3).trans (Arrays.arr1_3 c (score m c) hs (W1_args m ρ c main_arg0 (by decide)) (W1_idx m ρ c) (W1_mcode m ρ c))

theorem W3_v2 (c : Dev nD) (hs : ∀ b k, mag (row (score m c) b) k < ⊤) :
    W3 m ρ c (Proc.devRef .tc main_v2) = confs (score m c) := by
  have h : W3 m ρ c (Proc.devRef .tc main_v2)
      = transpose S64x10x32768 [1, 0, 2] (W2 m ρ c (Proc.devRef .tc main_v1)) transposes_S10x64x32768_S64x10x32768_1_0_2 := by
    simp only [W3, hostOps2, StableHlo.after_cons, StableHlo.after_nil]
    rw [StableHlo.binary_result_ne' _ _ _ _ _ (by decide), StableHlo.unary_result']
  rw [h, W2_conf m ρ c hs]
  funext i
  obtain ⟨a, b, c, rfl⟩ : ∃ a b c, i = ix3 a b c := ⟨_, _, _, eq_ix3 i⟩
  rfl

theorem W3_v3 (c : Dev nD) (hs : ∀ b k, mag (row (score m c) b) k < ⊤) :
    W3 m ρ c (Proc.devRef .tc main_v3) = dots (score m c) := by
  have h : W3 m ρ c (Proc.devRef .tc main_v3)
      = Host.dotGeneral (F := Ideal) (φ₁ := .f32) (φ₂ := .f32) dot_S64x10x32768_S64x32768_S64x10_2_1_1_n_0_0 none (W3 m ρ c (Proc.devRef .tc main_v2))
        (W2 m ρ c (Proc.devRef .tc main_arg0)) := by
    simp only [W3, hostOps2, StableHlo.after_cons, StableHlo.after_nil]
    rw [StableHlo.binary_result', StableHlo.binary_result_ne' _ _ _ _ _ (by decide), StableHlo.unary_result_ne' _ _ _ _ (r := main_arg0) (by decide)]
  rw [h, W3_v2 m ρ c hs, W2_args m ρ c main_arg0 (by decide)]
  rfl

theorem W5_v2 (c : Dev nD) (hs : ∀ b k, mag (row (score m c) b) k < ⊤) :
    W5 m ρ c (Proc.devRef .tc main_v2) = confs (score m c) :=
  (W5_of m ρ c main_v2 (by decide)).trans ((W4_of_ne m ρ c main_v2 (by decide)).trans (W3_v2 m ρ c hs))

theorem W4_dist (c : Dev nD) (hs : ∀ b k, mag (row (score m c) b) k < ⊤) :
    W4 m ρ c (Proc.devRef .tc main_v4_0) = out2_1 (dots (score m c)) :=
  (W4_arr m ρ c 1).trans ((Arrays.arr2_1 (V3 m ρ) c).trans (congrArg out2_1 (W3_v3 m ρ c hs)))

theorem W4_ent (c : Dev nD) (hs : ∀ b k, mag (row (score m c) b) k < ⊤) :
    W4 m ρ c (Proc.devRef .tc main_v4_1) = out2_2 (dots (score m c)) :=
  (W4_arr m ρ c 2).trans ((Arrays.arr2_2 (V3 m ρ) c).trans (congrArg out2_2 (W3_v3 m ρ c hs)))

theorem W5_dist (c : Dev nD) (hs : ∀ b k, mag (row (score m c) b) k < ⊤) :
    W5 m ρ c (Proc.devRef .tc main_v4_0) = out2_1 (dots (score m c)) :=
  (W5_of m ρ c main_v4_0 (by decide)).trans (W4_dist m ρ c hs)

theorem W5_ent (c : Dev nD) (hs : ∀ b k, mag (row (score m c) b) k < ⊤) :
    W5 m ρ c (Proc.devRef .tc main_v5) = shapeCast S_ (out2_2 (dots (score m c))) shapeCasts_S1x1_S_ := by
  have h : W5 m ρ c (Proc.devRef .tc main_v5) = shapeCast S_ (W4 m ρ c (Proc.devRef .tc main_v4_1)) shapeCasts_S1x1_S_ := by
    simp only [W5, hostOps3, StableHlo.after_cons, StableHlo.after_nil]
    rw [StableHlo.reshape_result']
    rfl
  rw [h, W4_ent m ρ c hs]

set_option backward.isDefEq.respectTransparency.types false in
/-- The run ends, from any memory with zero counters, with every buffer of the program at the last boundary's contents. -/
theorem launched : θ_run defs (onTc (τ := τ) (main (F := Ideal))) ⟨m, fun _ => 0, ρ⟩ (fun r => ∀ c : Dev nD,
    ∀ b : Ref sig .tc, ¬ (Proc.devRef .tc b : DevRef τ sig).isScoped →
      r.2.mem ((c.tc : Thread nD τ).loc b) = W5 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.KRun

end
-- ==== Proof.RefSparse.lean ====
/-
  The reference's sparsemax, at its own scores: the sorted scores, their running sums, the support's size, the
  threshold, the distribution and its entropy.
-/
module

public import proofs.«01_k».proof.Proof.Sparsemax
public import proofs.«01_k».proof.Proof.Gen.ReferenceIdeal
public import proofs.«01_k».proof.Proof.Gen.ReferenceIdeal.Run
public import Idealize.ShloMosaic.Lib.Routing.Ops
public import Idealize.ShloMosaic.Lib.ReduceAll

@[expose] public section

set_option maxRecDepth 16384

noncomputable section

namespace Cert.RefSparse

open Idealize.ShloMosaic Cert.Rounds Cert.RoundOps Cert.Spec
open Cert.ReferenceIdeal Cert.ReferenceIdeal.Gen Cert.ReferenceIdeal.Value

variable (V0 : Valuation τ sig (Elt Ideal))

/-- The reference's scores. -/
abbrev d : FVec Ideal S64x10 .f32 := res_main_v62 V0
/-- They sorted, greatest first. -/
abbrev sorted : FVec Ideal S64x10 .f32 := res_main_v65 V0
/-- The running sums. -/
abbrev sums : FVec Ideal S64x10 .f32 := res_main_v66 V0
/-- The support's size. -/
abbrev size : IVec S64 32 := res_main_v77 V0
/-- The support's last rank. -/
abbrev last : IVec S64x1 32 := res_main_v80 V0
/-- It as the index of a read. -/
abbrev place : IVec S64x1x1 32 := res_main_call3_v5 V0

theorem comparator (l r : EReal) : comparator_f32_d1 (F := Ideal) l r = BitVec.ofBool (decide (l < r)) := by
  have hz : FloatOps.ofBits (F := Ideal) .f32 0x00000000#32 = (0 : EReal) := Ideal.ofBits_zero_f32
  have h : ∀ x : EReal, Scalar.select (Ideal.cmp .une x x) (FloatOps.ofBits (F := Ideal) .f32 0x7FC00000#32)
      (Scalar.select (Ideal.cmp .oeq x (FloatOps.ofBits (F := Ideal) .f32 0x00000000#32)) (FloatOps.ofBits (F := Ideal) .f32 0x00000000#32) x) = x := by
    intro x
    rw [hz, show Ideal.cmp .une x x = 0#1 by simp [Ideal.cmp]]
    show Scalar.select (Ideal.cmp .oeq x 0) (0 : EReal) x = x
    by_cases hx : x = 0
    · subst hx; simp [Scalar.select]
    · rw [show Ideal.cmp .oeq x 0 = 0#1 by simp [Ideal.cmp, hx]]; rfl
  exact congrArg₂ (Ideal.cmp .olt) (h l) (h r)

/-- A sort along the rows of a block of two axes. -/
theorem sort_row {B N : ℕ} [NeZero N] (cmp : EReal → EReal → BitVec 1) (hc : ∀ l r, cmp l r = BitVec.ofBool (decide (l < r)))
    (x : (Blk B N).Idx → EReal) (b : Fin B) (hx : ∀ k, row x b k < ⊤) (r : Fin N) :
    Host.sort (Blk B N) 1 cmp x (ix2 b r) = row x b (pos (row x b) r) := by
  have ha : ∀ k : Fin N, Shape.Idx.along (s := Blk B N) (ix2 b r) ⟨1, Nat.one_lt_two⟩ k = ix2 b k := by
    intro k; funext a; fin_cases a <;> rfl
  unfold Host.sort
  rw [dif_pos (Nat.one_lt_two : 1 < (Blk B N).rank)]
  refine (congrArg x (ha _)).trans (congrArg (fun k => x (ix2 b k)) ?_)
  refine sortedFrom_eq_pos (row x b) hx _ (fun k k' => ?_) r
  refine (congrArg₂ (fun u v => cmp u v == 1#1) (congrArg x (ha k)) (congrArg x (ha k'))).trans ?_
  show (cmp (x (ix2 b k)) (x (ix2 b k')) == 1#1) = _
  rw [hc]
  by_cases h : x (ix2 b k) < x (ix2 b k') <;> simp [h, row]

theorem sorted_apply (b : Fin 64) (hb : ∀ k, ⊥ < row (d V0) b k) (r : Fin 10) :
    sorted V0 (ix2 b r) = srt (row (d V0) b) r.val := by
  unfold sorted res_main_v65
  show -(Host.sort S64x10 1 comparator_f32_d1 (Host.negf (d V0)) (ix2 b r)) = _
  have h := sort_row (B := 64) (N := 10) (comparator_f32_d1 (F := Ideal)) comparator (Host.negf (d V0)) b
    (fun k => by
      show -(row (d V0) b k) < ⊤
      rw [EReal.neg_lt_comm, EReal.neg_top]; exact hb k) r
  rw [show Host.sort S64x10 1 comparator_f32_d1 (Host.negf (d V0)) (ix2 b r) = _ from h]
  show - -(row (d V0) b _) = _
  rw [neg_neg]
  rfl

/-- A running sum over ten columns. -/
theorem window_sum (x : FVec Ideal S64x10 .f32) (f : ℕ → EReal) (b : Fin 64) (hf : ∀ i : Fin 10, x (ix2 b i) = f i.val) (j : Fin 10) :
    Ideal.hostReduceWindowAdd ![1, 10] ![1, 1] ![0, 9] ![0, 0] reduceWindows_S64x10_S64x10_w1s1p0_0_w10s1p9_0 x 0 (ix2 b j)
      = ∑ i ∈ Finset.range (j.val + 1), f i := by
  have hfold : ∀ {n : ℕ} (g : Fin n → EReal) (l : List (Fin n)) (r : EReal),
      l.foldl (fun r n => r + g n) r = r + (l.map g).sum := by
    intro n g l
    induction l with
    | nil => intro r; simp
    | cons a l ih => intro r; rw [List.foldl_cons, ih, List.map_cons, List.sum_cons, add_assoc]
  unfold Ideal.hostReduceWindowAdd Host.reduceWindow
  refine (hfold _ _ _).trans ?_
  rw [zero_add]
  refine (congrArg List.sum (List.map_congr_left (g := fun n : Fin 10 => if 9 ≤ j.val + n.val then f (j.val + n.val - 9) else 0)
    fun n _ => ?_)).trans ?_
  · have e := Routing.symm2 (N := 10) n
    have w0 : ((Routing.shape2 1 10).rowMajor.symm n 0).val = 0 := by rw [e]; rfl
    have w1 : ((Routing.shape2 1 10).rowMajor.symm n 1).val = n.val := by rw [e]; rfl
    dsimp only
    split
    · next hin =>
      have h1 := hin 1
      change 9 ≤ j.val * 1 + ((Routing.shape2 1 10).rowMajor.symm n 1).val
        ∧ j.val * 1 + ((Routing.shape2 1 10).rowMajor.symm n 1).val - 9 < 10 at h1
      rw [w1] at h1
      rw [if_pos (by omega)]
      refine (congrArg x (funext fun a => Fin.ext ?_)).trans (hf ⟨j.val + n.val - 9, by omega⟩)
      fin_cases a
      · show b.val * 1 + ((Routing.shape2 1 10).rowMajor.symm n 0).val - 0 = b.val
        rw [w0]; omega
      · show j.val * 1 + ((Routing.shape2 1 10).rowMajor.symm n 1).val - 9 = j.val + n.val - 9
        rw [w1]; omega
    · next hin =>
      have hn : n.val < 10 := n.isLt
      rw [if_neg fun hle => hin fun a => ?_]
      fin_cases a
      · show 0 ≤ b.val * 1 + ((Routing.shape2 1 10).rowMajor.symm n 0).val ∧ b.val * 1 + ((Routing.shape2 1 10).rowMajor.symm n 0).val - 0 < 64
        rw [w0]; omega
      · show 9 ≤ j.val * 1 + ((Routing.shape2 1 10).rowMajor.symm n 1).val ∧ j.val * 1 + ((Routing.shape2 1 10).rowMajor.symm n 1).val - 9 < 10
        rw [w1]; omega
  · change (List.map (fun n : Fin 10 => if 9 ≤ j.val + n.val then f (j.val + n.val - 9) else 0) (List.finRange 10)).sum = _
    rw [← List.ofFn_eq_map, List.sum_ofFn]
    fin_cases j <;> simp [Fin.sum_univ_succ, Finset.sum_range_succ, add_assoc]

theorem sums_apply (b : Fin 64) (hb : ∀ k, ⊥ < row (d V0) b k) (r : Fin 10) :
    sums V0 (ix2 b r) = csum (row (d V0) b) r.val := by
  unfold sums res_main_v66
  have h0 : (broadcastInDim S_ ![] bcast_S_S_ (constant (F := Ideal) S_ .f32 0x00000000#32)) (Shape.Idx.first h_S_) = (0 : EReal) :=
    Ideal.ofBits_zero_f32
  show Ideal.hostReduceWindowAdd ![1, 10] ![1, 1] ![0, 9] ![0, 0] reduceWindows_S64x10_S64x10_w1s1p0_0_w10s1p9_0 (sorted V0)
    ((broadcastInDim S_ ![] bcast_S_S_ (constant (F := Ideal) S_ .f32 0x00000000#32)) (Shape.Idx.first h_S_)) (ix2 b r) = _
  rw [h0]
  exact window_sum (sorted V0) (srt (row (d V0) b)) b (sorted_apply V0 b hb) r

/-- The rank's word as a number. -/
theorem rank_word (q : Fin 10) : (1 : EReal) + (((BitVec.ofNat 32 q.val).toInt : ℝ) : EReal) = ((q.val + 1 : ℕ) : EReal) := by
  rw [StableHlo.Predicate.toInt_ofNat_small _ (by omega)]
  norm_cast
  rw [add_comm]

theorem mask_apply (x y : FVec Ideal S64x10 .f32) (b : Fin 64) (q : Fin 10) :
    cmpf .ogt (addf (broadcastInDim S64x10 ![] bcast_S_S64x10 (constant S_ .f32 0x3F800000#32))
      (mulf (broadcastInDim S64x10 ![0, 1] bcast_S1x10_S64x10_0_1 (broadcastInDim S1x10 ![1] bcast_S10_S1x10_1
        (addf (broadcastInDim S10 ![] bcast_S_S10 (constant S_ .f32 0x3F800000#32)) (sitofp .f32 (iotaInDim S10 32 0))))) x)) y (ix2 b q)
      = Ideal.cmp .ogt (FloatOps.ofBits (F := Ideal) .f32 0x3F800000#32
        + (FloatOps.ofBits (F := Ideal) .f32 0x3F800000#32 + (((BitVec.ofNat 32 q.val).toInt : ℝ) : EReal)) * x (ix2 b q)) (y (ix2 b q)) := rfl

theorem size_apply (b : Fin 64) (hb : ∀ k, ⊥ < row (d V0) b k) :
    size V0 (ix1 b) = BitVec.ofNat 32 (cnt (row (d V0) b) 10) := by
  have hc : cnt (row (d V0) b) 10 = Nat.count (Sup (row (d V0) b)) 10 := by
    rw [Nat.count_eq_card_filter_range]; rfl
  rw [hc]
  unfold size res_main_v77
  refine Routing.reduce_count (n := 64) (m := 10) (by decide) _ _ _ _ b (Sup (row (d V0) b)) fun q => ?_
  refine (iff_of_eq (congrArg (· = 1#1) (mask_apply (sorted V0) (sums V0) b q))).trans ?_
  rw [sums_apply V0 b hb, sorted_apply V0 b hb,
    show FloatOps.ofBits (F := Ideal) .f32 0x3F800000#32 = (1 : EReal) from Ideal.ofBits_one_f32, rank_word]
  exact (StableHlo.Predicate.ofBool_eq_one_iff _).trans decide_eq_true_iff

variable (b : Fin 64) (hb : ∀ k, ⊥ < row (d V0) b k) (ht : ∀ k, row (d V0) b k < ⊤)

include hb ht

theorem last_apply : last V0 (ix2 b 0) = BitVec.ofNat 32 (cnt (row (d V0) b) 10 - 1) := by
  have h1 := one_le_cnt (row (d V0) b) hb ht
  have h2 := cnt_le (row (d V0) b) 10
  unfold last res_main_v80
  refine (congrArg (fun w : BitVec 32 => w - 1#32) ((congrArg (size V0) (eq_ix1 _)).trans (size_apply V0 b hb))).trans ?_
  apply BitVec.eq_of_toNat_eq
  simp only [BitVec.toNat_sub, BitVec.toNat_ofNat]
  omega

theorem place_apply : place V0 (ix3 b 0 0) = BitVec.ofNat 32 (cnt (row (d V0) b) 10 - 1) := by
  have h1 := one_le_cnt (row (d V0) b) hb ht
  have h2 := cnt_le (row (d V0) b) 10
  unfold place res_main_call3_v5
  refine (shapeCast_apply _ _ _ (ix2 b 0) ?_).trans ?_
  · change (S64x1.rowMajor (ix2 b 0)).val = (S64x1x1.rowMajor (ix3 b 0 0)).val
    rw [Shape.rowMajor_val_two, Shape.rowMajor_val_three]
    show b.val * 1 + 0 = (b.val * 1 + 0) * 1 + 0
    omega
  show Scalar.select (IntOp.cmpi .slt (last V0 (ix2 b 0) : BitVec 32) 0#32) ((last V0 (ix2 b 0) : BitVec 32) + 10#32)
    (last V0 (ix2 b 0) : BitVec 32) = _
  rw [last_apply V0 b hb ht]
  have hn : cnt (row (d V0) b) 10 - 1 < 10 := by omega
  generalize cnt (row (d V0) b) 10 - 1 = n at hn ⊢
  interval_cases n <;> rfl

/-- The read takes the sum there. -/
theorem gathered : Host.gather gather_S64x10_S64x1x1_S64x1_n_1_0_0_1_2_11 (sums V0) (place V0) (ix2 b 0)
    = csum (row (d V0) b) (cnt (row (d V0) b) 10 - 1) := by
  have h2 := cnt_le (row (d V0) b) 10
  have h1 := one_le_cnt (row (d V0) b) hb ht
  rw [← sums_apply V0 b hb ⟨cnt (row (d V0) b) 10 - 1, by omega⟩]
  unfold Host.gather
  refine congrArg (sums V0) (funext fun a => Fin.ext ?_)
  have hs : ∀ i : S64x1x1.Idx, i = ix3 b 0 0 → (place V0 i : BitVec 32) = BitVec.ofNat 32 (cnt (row (d V0) b) 10 - 1) := by
    rintro i rfl; exact place_apply V0 b hb ht
  fin_cases a
  · show GatherDims.start gather_S64x10_S64x1x1_S64x1_n_1_0_0_1_2_11 (ix2 b 0) (place V0) 0
      + GatherDims.batchCoord gather_S64x10_S64x1x1_S64x1_n_1_0_0_1_2_11 (ix2 b 0) 0
      + GatherDims.offCoord gather_S64x10_S64x1x1_S64x1_n_1_0_0_1_2_11 (ix2 b 0) 0 = b.val
    rw [GatherDims.start_batching _ _ _ _ (by decide), GatherDims.offCoord_eq_zero _ _ _ (by decide)]
    unfold GatherDims.batchCoord
    rw [dif_pos (by decide), Nat.zero_add, Nat.add_zero]
    rfl
  · show GatherDims.start gather_S64x10_S64x1x1_S64x1_n_1_0_0_1_2_11 (ix2 b 0) (place V0) 1
      + GatherDims.batchCoord gather_S64x10_S64x1x1_S64x1_n_1_0_0_1_2_11 (ix2 b 0) 1
      + GatherDims.offCoord gather_S64x10_S64x1x1_S64x1_n_1_0_0_1_2_11 (ix2 b 0) 1 = cnt (row (d V0) b) 10 - 1
    rw [GatherDims.batchCoord_eq_zero _ _ _ (by decide), GatherDims.offCoord_eq_zero _ _ _ (by decide)]
    unfold GatherDims.start
    rw [dif_pos (by decide), hs _ (by funext a; fin_cases a <;> rfl), StableHlo.Predicate.toInt_ofNat_small _ (by omega)]
    show min (cnt (row (d V0) b) 10 - 1) (10 - 1) + 0 + 0 = _
    omega

/-- Whether the position is inside the row, at every row. -/
abbrev isIn : IVec S64x1 1 := Host.reduce IntOp.andi (andi (cmpi .sge (place V0) (broadcastInDim S64x1x1 ![] bcast_S_S64x1x1 (constantI S_ 32 0#32)))
  (cmpi .sle (place V0) (broadcastInDim S64x1x1 ![0, 1, 2] bcast_S1x1x1_S64x1x1_0_1_2
    (broadcastInDim S1x1x1 ![2] bcast_S1_S1x1x1_2 (constantI S1 32 9#32))))) (constantI S_ 1 1#1) reducesTo_S64x1x1_S64x1_d2 h_S_

omit b hb ht in
/-- It is. -/
theorem inside (hb : ∀ b k, ⊥ < row (d V0) b k) (ht : ∀ b k, row (d V0) b k < ⊤) (j : S64x1.Idx) : isIn V0 j = 1#1 := by
  refine Host.reduce_andi_one _ _ _ _ _ rfl fun i => ?_
  obtain ⟨b, e⟩ : ∃ b : Fin 64, i = ix3 b 0 0 := ⟨i 0, by
    funext a
    fin_cases a
    · rfl
    · exact Subsingleton.elim (α := Fin 1) _ _
    · exact Subsingleton.elim (α := Fin 1) _ _⟩
  subst e
  have h2 := cnt_le (row (d V0) b) 10
  have h1 := one_le_cnt (row (d V0) b) (hb b) (ht b)
  show IntOp.andi (IntOp.cmpi .sge (place V0 (ix3 b 0 0) : BitVec 32) 0#32) (IntOp.cmpi .sle (place V0 (ix3 b 0 0) : BitVec 32) 9#32) = 1#1
  rw [place_apply V0 b (hb b) (ht b)]
  have hn : cnt (row (d V0) b) 10 - 1 < 10 := by omega
  generalize cnt (row (d V0) b) 10 - 1 = n at hn ⊢
  interval_cases n <;> rfl

omit b hb ht in
/-- The last operations of the distribution, at one index. -/
theorem tail_apply (x : FVec Ideal S64x10 .f32) (i : IVec S64x1 1) (g : FVec Ideal S64x1 .f32) (n : IVec S64 32) (b : Fin 64) (k : Fin 10) :
    maximumf (subf x (broadcastInDim S64x10 ![0, 1] bcast_S64x1_S64x10_0_1 (Host.divf (subf (select i g
      (broadcastInDim S64x1 ![] bcast_S_S64x1 (constant S_ .f32 0x7FC00000#32))) (broadcastInDim S64x1 ![] bcast_S_S64x1
      (constant S_ .f32 0x3F800000#32))) (sitofp .f32 (broadcastInDim S64x1 ![0] bcast_S64_S64x1_0 n)))))
      (broadcastInDim S64x10 ![] bcast_S_S64x10 (constant S_ .f32 0x00000000#32)) (ix2 b k)
    = max (x (ix2 b k) - Ideal.div (Scalar.select (i (ix2 b 0)) (g (ix2 b 0)) (FloatOps.ofBits (F := Ideal) .f32 0x7FC00000#32)
      - FloatOps.ofBits (F := Ideal) .f32 0x3F800000#32) (((n (ix1 b)).toInt : ℝ) : EReal)) (FloatOps.ofBits (F := Ideal) .f32 0x00000000#32) := by
  have e1 : sitofp (F := Ideal) .f32 (broadcastInDim S64x1 ![0] bcast_S64_S64x1_0 n) (ix2 b 0) = (((n (ix1 b)).toInt : ℝ) : EReal) :=
    congrArg (fun i => (((n i).toInt : ℝ) : EReal)) (funext fun a => by fin_cases a; rfl)
  have e2 : ∀ y : FVec Ideal S64x1 .f32, broadcastInDim S64x10 ![0, 1] bcast_S64x1_S64x10_0_1 y (ix2 b k) = y (ix2 b 0) :=
    fun y => congrArg y (funext fun a => by fin_cases a <;> rfl)
  rw [← e1]
  exact congrArg (fun t : EReal => max (x (ix2 b k) - t) (FloatOps.ofBits (F := Ideal) .f32 0x00000000#32)) (e2 _)

/-- The reference's distribution. -/
abbrev res : FVec Ideal S64x10 .f32 := maximumf (subf (d V0) (broadcastInDim S64x10 ![0, 1] bcast_S64x1_S64x10_0_1 (Host.divf (subf
  (select (isIn V0) (Host.gather gather_S64x10_S64x1x1_S64x1_n_1_0_0_1_2_11 (sums V0) (place V0))
  (broadcastInDim S64x1 ![] bcast_S_S64x1 (constant S_ .f32 0x7FC00000#32))) (broadcastInDim S64x1 ![] bcast_S_S64x1
  (constant S_ .f32 0x3F800000#32))) (sitofp .f32 (broadcastInDim S64x1 ![0] bcast_S64_S64x1_0 (size V0))))))
  (broadcastInDim S64x10 ![] bcast_S_S64x10 (constant S_ .f32 0x00000000#32))

omit b hb ht in
/-- It is the sparsemax of every row. -/
theorem res_apply (hb : ∀ b k, ⊥ < row (d V0) b k) (ht : ∀ b k, row (d V0) b k < ⊤) (b : Fin 64) (k : Fin 10) :
    res V0 (ix2 b k) = Spec.dist (row (d V0) b) k := by
  have h2 := cnt_le (row (d V0) b) 10
  refine (tail_apply _ _ _ _ b k).trans ?_
  rw [inside V0 hb ht, gathered V0 b (hb b) (ht b), size_apply V0 b (hb b),
    show FloatOps.ofBits (F := Ideal) .f32 0x00000000#32 = (0 : EReal) from Ideal.ofBits_zero_f32,
    show FloatOps.ofBits (F := Ideal) .f32 0x3F800000#32 = (1 : EReal) from Ideal.ofBits_one_f32,
    StableHlo.Predicate.toInt_ofNat_small _ (by omega)]
  unfold Spec.dist thr
  rfl

/-- The terms of the entropy. -/
abbrev terms (x : FVec Ideal S640 .f32) : FVec Ideal S640 .f32 :=
  select (cmpf .ogt x (broadcastInDim S640 ![] bcast_S_S640 (constant S_ .f32 0x00000000#32)))
    (mulf x (Host.log (select (cmpf .ogt x (broadcastInDim S640 ![] bcast_S_S640 (constant S_ .f32 0x00000000#32))) x
      (broadcastInDim S640 ![] bcast_S_S640 (id (constant S_ .f32 0x3F800000#32))))))
    (broadcastInDim S640 ![] bcast_S_S640 (id (constant S_ .f32 0x00000000#32)))

omit V0 b hb ht in
theorem terms_apply (x : FVec Ideal S640 .f32) (j : S640.Idx) : terms x j = plogp (x j) := by
  show Scalar.select (Ideal.cmp .ogt (x j) (FloatOps.ofBits (F := Ideal) .f32 0x00000000#32)) (x j * Ideal.log
    (Scalar.select (Ideal.cmp .ogt (x j) (FloatOps.ofBits (F := Ideal) .f32 0x00000000#32)) (x j) (FloatOps.ofBits (F := Ideal) .f32 0x3F800000#32)))
    (FloatOps.ofBits (F := Ideal) .f32 0x00000000#32) = _
  rw [show FloatOps.ofBits (F := Ideal) .f32 0x00000000#32 = (0 : EReal) from Ideal.ofBits_zero_f32,
    show FloatOps.ofBits (F := Ideal) .f32 0x3F800000#32 = (1 : EReal) from Ideal.ofBits_one_f32]
  exact Sparsemax.term_eq _

omit V0 b hb ht in
/-- The sum of the terms does not depend on the array's shape. -/
theorem sum_terms (r : FVec Ideal S64x10 .f32) :
    ∑ j, terms (shapeCast S640 r shapeCasts_S64x10_S640) j = ∑ i, plogp (r i) := by
  rw [show terms (shapeCast S640 r shapeCasts_S64x10_S640) = shapeCast S640 (fun i => plogp (r i)) shapeCasts_S64x10_S640 from
    funext fun j => terms_apply _ j]
  exact Sparsemax.sum_shapeCast _ _

omit V0 b hb ht in
/-- The last operations of the entropy. -/
theorem mean_apply (x : FVec Ideal S640 .f32) (y : S_.Idx) :
    Host.divf (F := Ideal) (Host.negf (Host.reduceAdd x (constant S_ .f32 0x00000000#32) reducesTo_S640_S_d0 h_S_))
      (constant S_ .f32 0x42800000#32) y = Ideal.div (-(∑ j, x j)) 64 := by
  show Ideal.div (-(Ideal.hostReduceAdd reducesTo_S640_S_d0 x (FloatOps.ofBits (F := Ideal) .f32 0x00000000#32) y : EReal))
    (FloatOps.ofBits (F := Ideal) .f32 0x42800000#32) = _
  rw [Ideal.hostReduceAdd_total _ (fun b => b.elim0), Sparsemax.word64,
    show FloatOps.ofBits (F := Ideal) .f32 0x00000000#32 = (0 : EReal) from Ideal.ofBits_zero_f32, zero_add]

omit b hb ht in
/-- The reference's entropy, of its distribution as one vector. -/
theorem ent_apply (hb : ∀ b k, ⊥ < row (d V0) b k) (ht : ∀ b k, row (d V0) b k < ⊤) (x : FVec Ideal S640 .f32)
    (hx : x = shapeCast S640 (res V0) shapeCasts_S64x10_S640) (y : S_.Idx) :
    Host.divf (F := Ideal) (Host.negf (Host.reduceAdd (terms x) (constant S_ .f32 0x00000000#32) reducesTo_S640_S_d0 h_S_))
      (constant S_ .f32 0x42800000#32) y = ent fun b => row (d V0) b := by
  refine (mean_apply _ y).trans ?_
  unfold ent
  refine congrArg (fun t : EReal => Ideal.div (-t) 64) ?_
  rw [hx, sum_terms]
  refine (sum_idx2 _).trans (Finset.sum_congr rfl fun b _ => Finset.sum_congr rfl fun k _ => ?_)
  rw [res_apply V0 hb ht]

end Cert.RefSparse

end
-- ==== Proof.RefConf.lean ====
/-
  The reference's configurations: the ten smallest absolute scores of each row, the subset costs, the ten cheapest
  subsets, and the flips scattered over the rows.
-/
module

public import proofs.«01_k».proof.Proof.Spec
public import proofs.«01_k».proof.Proof.Words
public import proofs.«01_k».proof.Proof.Gen.ReferenceIdeal
public import proofs.«01_k».proof.Proof.Gen.ReferenceIdeal.Run
public import Idealize.ShloMosaic.Lib.Routing.OpsSet
public import Idealize.ShloMosaic.Lib.Routing.OpsPair
public import Idealize.ShloMosaic.Lib.ValueIdxCore

@[expose] public section

set_option maxRecDepth 16384

noncomputable section

namespace Cert.RefConf

open Idealize.ShloMosaic Idealize.ShloMosaic.Routing Cert.Rounds Cert.RoundOps Cert.Spec
open Cert.ReferenceIdeal Cert.ReferenceIdeal.Gen

/-! ## The `K` smallest of every row -/

/-- Of a block without `+∞` in row `b`, the greatest of the negated elements sit where the rounds find the smallest. -/
theorem top_row {B N K : ℕ} [NeZero N] (x : FVec Ideal (Blk B N) .f32) (y : FVec Ideal (Blk B N) .f32) (hy : ∀ i, y i = -x i)
    (h : (Blk B N).Slices (fun _ => 0) (Blk B K)) (b : Fin B) (hx : ∀ k, row x b k < ⊤) (r : Fin K) :
    (Host.topK (Blk B K) 1 (FloatOps.cmpfTotal (F := Ideal) (φ := .f32) .gt) y h).1 (ix2 b r) = -(row x b (pos (row x b) r.val))
    ∧ (Host.topK (Blk B K) 1 (FloatOps.cmpfTotal (F := Ideal) (φ := .f32) .gt) y h).2 (ix2 b r)
      = BitVec.ofNat 32 (pos (row x b) r.val).val := by
  have hr : r.val < N := by have := h.2 1; change 0 + K ≤ N at this; omega
  have ha : ∀ k : Fin N, Shape.Idx.along (s := Blk B N) (ix2 b ⟨r.val, hr⟩) ⟨1, Nat.one_lt_two⟩ k = ix2 b k := by
    intro k; funext a; fin_cases a <;> rfl
  have hj : (fun a => ⟨0 + ((ix2 b r : (Blk B K).Idx) (Fin.cast h.1.symm a)).val,
      Nat.lt_of_lt_of_le (Nat.add_lt_add_left ((ix2 b r : (Blk B K).Idx) _).isLt _) (h.2 a)⟩ : (Blk B N).Idx) = ix2 b ⟨r.val, hr⟩ := by
    funext a; fin_cases a <;> exact Fin.ext (Nat.zero_add _)
  have hp : ∀ β : Type, ∀ z : (Blk B N).Idx → β, sortedFrom (fun k k' : Fin N => (FloatOps.cmpfTotal (F := Ideal) (φ := .f32) .gt)
      (y (Shape.Idx.along (s := Blk B N) (ix2 b ⟨r.val, hr⟩) ⟨1, Nat.one_lt_two⟩ k))
      (y (Shape.Idx.along (s := Blk B N) (ix2 b ⟨r.val, hr⟩) ⟨1, Nat.one_lt_two⟩ k')) == 1#1) ⟨r.val, hr⟩ = pos (row x b) r.val := by
    intro β z
    refine sortedFrom_eq_pos (row x b) hx _ (fun k k' => ?_) ⟨r.val, hr⟩
    rw [ha, ha, hy, hy]
    show (BitVec.ofBool (decide (-x (ix2 b k') < -x (ix2 b k))) == 1#1) = decide (x (ix2 b k) < x (ix2 b k'))
    by_cases hlt : x (ix2 b k) < x (ix2 b k') <;> simp [hlt, EReal.neg_lt_neg_iff]
  unfold Host.topK Host.sort2 extractStridedSlice
  simp only [hj]
  rw [dif_pos (Nat.one_lt_two : 1 < (Blk B N).rank)]
  constructor
  · refine (congrArg y ((congrArg _ (hp Unit fun _ => ())).trans (ha _))).trans (hy _)
  · refine (congrArg (fun i : (Blk B N).Idx => if hd : 1 < (Blk B N).rank then iotaInDim (Blk B N) 32 ⟨1, hd⟩ i else 0#32)
      ((congrArg _ (hp Unit fun _ => ())).trans (ha _))).trans ?_
    rw [dif_pos (Nat.one_lt_two : 1 < (Blk B N).rank)]
    rfl

/-! ## The subset costs -/

/-- No cost is `+∞`. -/
theorem cost_lt (s : Fin 32768 → EReal) (hs : ∀ k, mag s k < ⊤) (m : Fin 1024) : cost s m < ⊤ := by
  unfold cost
  refine Finset.sum_induction _ (· < ⊤) (fun a b h h' => EReal.add_lt_top h.ne h'.ne) EReal.zero_lt_top fun i _ => ?_
  split
  · exact hs _
  · exact EReal.zero_lt_top

/-- The table of the subsets' bits. -/
abbrev bits : FVec Ideal S1024x10 .f32 :=
  sitofp .f32 (andi (Host.shrsi (broadcastInDim S1024x10 ![0, 1] bcast_S1024x1_S1024x10_0_1 (broadcastInDim S1024x1 ![0] bcast_S1024_S1024x1_0 (iotaInDim S1024 32 0))) (broadcastInDim S1024x10 ![0, 1] bcast_S1x10_S1024x10_0_1 (broadcastInDim S1x10 ![1] bcast_S10_S1x10_1 (iotaInDim S10 32 0)))) (broadcastInDim S1024x10 ![] bcast_S_S1024x10 (constantI S_ 32 1#32)))

theorem bits_apply (m : Fin 1024) (i : Fin 10) :
    bits (ix2 m i) = if (BitVec.ofNat 32 m.val).getLsbD i.val then (1 : EReal) else 0 := by
  have e : bits (ix2 m i) = (((IntOp.andi (IntOp.shrsi .host (BitVec.ofNat 32 m.val) (BitVec.ofNat 32 i.val)) 1#32).toInt : ℝ) : EReal) := rfl
  rw [e, Words.bit_word _ _ _ (by omega)]
  split <;> simp

variable (x : FVec Ideal S64x32768 .f32)

/-- The absolute scores, negated. -/
abbrev nmag : FVec Ideal S64x32768 .f32 := Host.negf (Host.absf x)

/-- The ten smallest absolute scores, negated. -/
abbrev nlow : FVec Ideal S64x10 .f32 := (Host.topK S64x10 1 (FloatOps.cmpfTotal (F := Ideal) (φ := .f32) .gt) (nmag x) sliceFits_S64x32768_S64x10).1

/-- Their positions. -/
abbrev lowI : IVec S64x10 32 := (Host.topK S64x10 1 (FloatOps.cmpfTotal (F := Ideal) (φ := .f32) .gt) (nmag x) sliceFits_S64x32768_S64x10).2

/-- The costs. -/
abbrev costs : FVec Ideal S64x1024 .f32 :=
  Host.dotGeneral (F := Ideal) (φ₁ := .f32) (φ₂ := .f32) dot_S64x10_S10x1024_S64x1024_1_0_0_1_n_n none (Host.negf (nlow x))
    (transpose S10x1024 [1, 0] bits transposes_S1024x10_S10x1024_1_0)

/-- The ten cheapest subsets. -/
abbrev best : IVec S64x10 32 := (Host.topK S64x10 1 (FloatOps.cmpfTotal (F := Ideal) (φ := .f32) .gt) (Host.negf (costs x)) sliceFits_S64x1024_S64x10).2

variable (hs : ∀ b k, mag (row x b) k < ⊤)
include hs

theorem nlow_apply (b : Fin 64) (i : Fin 10) : nlow x (ix2 b i) = -(mag (row x b) (pos (mag (row x b)) i.val)) :=
  (top_row (B := 64) (N := 32768) (K := 10) (Host.absf x) (nmag x) (fun _ => rfl) sliceFits_S64x32768_S64x10 b (hs b) i).1

theorem lowI_apply (b : Fin 64) (i : Fin 10) : lowI x (ix2 b i) = BitVec.ofNat 32 (pos (mag (row x b)) i.val).val :=
  (top_row (B := 64) (N := 32768) (K := 10) (Host.absf x) (nmag x) (fun _ => rfl) sliceFits_S64x32768_S64x10 b (hs b) i).2

theorem costs_apply (b : Fin 64) (m : Fin 1024) : costs x (ix2 b m) = cost (row x b) m := by
  let e := ValueIdx.contrEquiv1 dot_S64x10_S10x1024_S64x1024_1_0_0_1_n_n 10 rfl rfl
  refine (Ideal.dotGeneral_apply _ _ _ _ _ _).trans ?_
  rw [← Equiv.sum_comp e.symm]
  refine Finset.sum_congr rfl fun i _ => ?_
  have hl : DotDims.lhsIdx dot_S64x10_S10x1024_S64x1024_1_0_0_1_n_n (ix2 b m) (e.symm i) = ix2 b i := by
    funext a; fin_cases a <;> rfl
  have hr : DotDims.rhsIdx dot_S64x10_S10x1024_S64x1024_1_0_0_1_n_n (ix2 b m) (e.symm i) = ix2 i m := by
    funext a; fin_cases a <;> rfl
  rw [hl, hr]
  have ht : transpose S10x1024 [1, 0] bits transposes_S1024x10_S10x1024_1_0 (ix2 i m) = bits (ix2 m i) :=
    congrArg bits (funext fun a => by fin_cases a <;> rfl)
  rw [ht, bits_apply]
  show -(nlow x (ix2 b i)) * _ = _
  rw [nlow_apply x hs, neg_neg]
  split <;> simp

theorem best_apply (b : Fin 64) (c : Fin 10) : best x (ix2 b c) = BitVec.ofNat 32 (pos (cost (row x b)) c.val).val := by
  have hrow : row (costs x) b = cost (row x b) := funext fun m => costs_apply x hs b m
  rw [← hrow]
  exact (top_row (B := 64) (N := 1024) (K := 10) (costs x) (Host.negf (costs x)) (fun _ => rfl) sliceFits_S64x1024_S64x10 b
    (fun k => by rw [hrow]; exact cost_lt _ (hs b) k) c).2

/-! ## The flips -/

omit x hs in
/-- The wrap of an index that is not negative leaves it. -/
theorem wrap (n : ℕ) (hn : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat]; omega)

/-- The wrapped indices of a read of the bits. -/
abbrev starts (v : IVec S64x10 32) : IVec S64x10x1 32 :=
  broadcastInDim S64x10x1 ![0, 1] bcast_S64x10_S64x10x1_0_1 (select (cmpi .slt v (broadcastInDim S64x10 ![] bcast_S_S64x10 (constantI S_ 32 0#32)))
    (addi v (broadcastInDim S64x10 ![] bcast_S_S64x10 (constantI S_ 32 1024#32))) v)

omit x hs in
theorem starts_apply (v : IVec S64x10 32) (b : Fin 64) (c : Fin 10) (q : S64x10x1.Idx) (n : ℕ) (hn : n < 2 ^ 31)
    (hv : v (ix2 b c) = BitVec.ofNat 32 n) (hq : q = ix3 b c 0) : starts v q = BitVec.ofNat 32 n := by
  have hb : ∀ f : S64x10.Idx → BitVec 32, broadcastInDim S64x10x1 ![0, 1] bcast_S64x10_S64x10x1_0_1 f q = f (ix2 b c) :=
    fun f => congrArg f (funext fun a => by subst hq; fin_cases a <;> rfl)
  refine (hb _).trans ?_
  show Scalar.select (IntOp.cmpi .slt (v (ix2 b c)) 0#32) (IntOp.addi (v (ix2 b c)) 1024#32) (v (ix2 b c)) = _
  rw [hv]
  exact wrap n hn _

/-- The bits of the ten cheapest subsets. -/
abbrev upd : FVec Ideal S64x10x10 .f32 := Host.gather gather_S1024x10_S64x10x1_S64x10x10_2_0_n_n_0_2_110 bits (starts (best x))

theorem upd_apply (b : Fin 64) (c i : Fin 10) : upd x (ix3 b c i)
    = if (BitVec.ofNat 32 (pos (cost (row x b)) c.val).val).getLsbD i.val then (1 : EReal) else 0 := by
  rw [← bits_apply]
  have hw := fun q => starts_apply (best x) b c q _ (by have := (pos (cost (row x b)) c.val).isLt; omega) (best_apply x hs b c)
  have hp := (pos (cost (row x b)) c.val).isLt
  unfold upd Host.gather
  refine congrArg bits (funext fun a => Fin.ext ?_)
  fin_cases a
  · show GatherDims.start gather_S1024x10_S64x10x1_S64x10x10_2_0_n_n_0_2_110 (ix3 b c i) _ 0
      + GatherDims.batchCoord gather_S1024x10_S64x10x1_S64x10x10_2_0_n_n_0_2_110 (ix3 b c i) 0
      + GatherDims.offCoord gather_S1024x10_S64x10x1_S64x10x10_2_0_n_n_0_2_110 (ix3 b c i) 0 = (pos (cost (row x b)) c.val).val
    rw [GatherDims.batchCoord_eq_zero _ _ _ (by decide), GatherDims.offCoord_eq_zero _ _ _ (by decide)]
    unfold GatherDims.start
    rw [dif_pos (by decide), hw _ (by funext a; fin_cases a <;> rfl), StableHlo.Predicate.toInt_ofNat_small _ (by omega)]
    show min (pos (cost (row x b)) c.val).val (1024 - 1) + 0 + 0 = _
    omega
  · show GatherDims.start gather_S1024x10_S64x10x1_S64x10x10_2_0_n_n_0_2_110 (ix3 b c i) _ 1
      + GatherDims.batchCoord gather_S1024x10_S64x10x1_S64x10x10_2_0_n_n_0_2_110 (ix3 b c i) 1
      + GatherDims.offCoord gather_S1024x10_S64x10x1_S64x10x10_2_0_n_n_0_2_110 (ix3 b c i) 1 = i.val
    rw [GatherDims.batchCoord_eq_zero _ _ _ (by decide)]
    unfold GatherDims.start GatherDims.offCoord
    rw [dif_neg (by decide), dif_pos (by decide), Nat.zero_add]
    rfl

/-- The rows' numbers. -/
abbrev v27 : IVec S64x1x1 32 := broadcastInDim S64x1x1 ![0] bcast_S64_S64x1x1_0 (iotaInDim S64 32 0)
/-- The subsets' numbers. -/
abbrev v29 : IVec S1x10x1 32 := broadcastInDim S1x10x1 ![1] bcast_S10_S1x10x1_1 (iotaInDim S10 32 0)
/-- The positions. -/
abbrev v30 : IVec S64x1x10 32 := broadcastInDim S64x1x10 ![0, 2] bcast_S64x10_S64x1x10_0_2 (lowI x)

/-- Where the flips go: the rows. -/
abbrev part0 : IVec S64x10x10x1 32 := broadcastInDim S64x10x10x1 ![0, 1, 2] bcast_S64x10x10_S64x10x10x1_0_1_2 (broadcastInDim S64x10x10 ![0, 1, 2] bcast_S64x1x1_S64x10x10_0_1_2
  (select (cmpi .slt v27 (broadcastInDim S64x1x1 ![] bcast_S_S64x1x1 (constantI S_ 32 0#32))) (addi v27 (broadcastInDim S64x1x1 ![] bcast_S_S64x1x1 (constantI S_ 32 64#32))) v27))
/-- Where the flips go: the configurations. -/
abbrev part1 : IVec S64x10x10x1 32 := broadcastInDim S64x10x10x1 ![0, 1, 2] bcast_S64x10x10_S64x10x10x1_0_1_2 (broadcastInDim S64x10x10 ![0, 1, 2] bcast_S1x10x1_S64x10x10_0_1_2
  (select (cmpi .slt v29 (broadcastInDim S1x10x1 ![] bcast_S_S1x10x1 (constantI S_ 32 0#32))) (addi v29 (broadcastInDim S1x10x1 ![] bcast_S_S1x10x1 (constantI S_ 32 10#32))) v29))
/-- Where the flips go: the lanes. -/
abbrev part2 : IVec S64x10x10x1 32 := broadcastInDim S64x10x10x1 ![0, 1, 2] bcast_S64x10x10_S64x10x10x1_0_1_2 (broadcastInDim S64x10x10 ![0, 1, 2] bcast_S64x1x10_S64x10x10_0_1_2
  (select (cmpi .slt (v30 x) (broadcastInDim S64x1x10 ![] bcast_S_S64x1x10 (constantI S_ 32 0#32))) (addi (v30 x) (broadcastInDim S64x1x10 ![] bcast_S_S64x1x10 (constantI S_ 32 32768#32))) (v30 x)))

/-- Where the flips go. -/
abbrev inds : IVec S64x10x10x3 32 := concatenate S64x10x10x3 3 [⟨S64x10x10x1, part0⟩, ⟨S64x10x10x1, part1⟩, ⟨S64x10x10x1, part2 x⟩]
  concatenates_S64x10x10x1_S64x10x10x1_S64x10x10x1_S64x10x10x3_d3

omit x hs in
/-- A wrapped array broadcast over the flips, read where its own index is `q`. -/
theorem part_apply {s : Shape} (v : IVec s 32) (z a : IVec s 32) (hz : ∀ q, z q = 0#32) (m : Fin s.rank → Fin S64x10x10.rank)
    (h : s.BroadcastsInDim S64x10x10 m) (j : S64x10x10x1.Idx) (q : s.Idx) (n : ℕ) (hn : n < 2 ^ 31) (hv : v q = BitVec.ofNat 32 n)
    (hq : ∀ (f : s.Idx → BitVec 32), broadcastInDim S64x10x10x1 ![0, 1, 2] bcast_S64x10x10_S64x10x10x1_0_1_2 (broadcastInDim S64x10x10 m h f) j = f q) :
    broadcastInDim S64x10x10x1 ![0, 1, 2] bcast_S64x10x10_S64x10x10x1_0_1_2 (broadcastInDim S64x10x10 m h (select (cmpi .slt v z) (addi v a) v)) j
      = BitVec.ofNat 32 n := by
  rw [hq]
  show Scalar.select (IntOp.cmpi .slt (v q) (z q)) (IntOp.addi (v q) (a q)) (v q) = _
  rw [hz, hv]
  exact wrap n hn _

omit x hs in
theorem inds_row (b : Fin 64) (c i : Fin 10) : part0 (ix4 b c i 0) = BitVec.ofNat 32 b.val :=
  part_apply v27 _ _ (fun _ => rfl) _ _ _ (ix3 b 0 0) _ (by omega) rfl fun f => congrArg f (funext fun a => by fin_cases a <;> rfl)

omit x hs in
theorem inds_conf (b : Fin 64) (c i : Fin 10) : part1 (ix4 b c i 0) = BitVec.ofNat 32 c.val :=
  part_apply v29 _ _ (fun _ => rfl) _ _ _ (ix3 0 c 0) _ (by omega) rfl fun f => congrArg f (funext fun a => by fin_cases a <;> rfl)

theorem inds_lane (b : Fin 64) (c i : Fin 10) : part2 x (ix4 b c i 0) = BitVec.ofNat 32 (pos (mag (row x b)) i.val).val :=
  part_apply (v30 x) _ _ (fun _ => rfl) _ _ _ (ix3 b 0 i) _ (by have := (pos (mag (row x b)) i.val).isLt; omega)
    ((congrArg (lowI x) (funext fun a => by fin_cases a <;> rfl)).trans (lowI_apply x hs b i))
    fun f => congrArg f (funext fun a => by fin_cases a <;> rfl)

omit x hs in
/-- A piece of the flips' places, read at one flip. -/
theorem piece (xs : List ((s : Shape) × (s.Idx → BitVec 32))) (h : Shape.Concatenates (xs.map (·.1)) S64x10x10x3 3) (b : Fin 64) (c i : Fin 10)
    (k : Fin 3) (y : IVec S64x10x10x1 32) (hk : k.val < xs.length) (hy : xs[k.val] = ⟨S64x10x10x1, y⟩)
    (hp : (((xs.take k.val).map (·.1)).map fun s => if h : s.rank = S64x10x10x3.rank then s.size ((3 : Fin S64x10x10x3.rank).cast h.symm) else 0).sum = k.val) :
    concatenate S64x10x10x3 3 xs h (ix4 b c i k) = y (ix4 b c i 0) := by
  refine concatenate_apply_piece 3 xs h _ k.val hk S64x10x10x1 y hy rfl k.val hp _ (fun a ha => ?_) rfl
  fin_cases a
  · rfl
  · rfl
  · rfl
  · exact absurd rfl ha

omit x hs in
theorem sumz (u : ℤ) (n : ℕ) (h : u = n) : u + ((0 : ℕ) : ℤ) = (n : ℤ) := by rw [h]; simp

/-- Flip `(b, c, i)` lands at configuration `c` of row `b`, on the `i`-th smallest absolute score. -/
theorem lands (b b' : Fin 64) (c c' i : Fin 10) (j : Fin 32768) :
    ScatterDims.resultIdx? scatter_S64x10x32768_S64x10x10x3_S64x10x10_n_012_012_3 (ix3 b c i) (inds x) = some (ix3 b' c' j)
      ↔ b = b' ∧ c = c' ∧ pos (mag (row x b)) i.val = j := by
  rw [resultIdx?_eq_some]
  have hp := (pos (mag (row x b)) i.val).isLt
  have hw : ∀ a, ScatterDims.window scatter_S64x10x32768_S64x10x10x3_S64x10x10_n_012_012_3 (ix3 b c i) a = 0 := fun a => by
    unfold ScatterDims.window; rw [dif_neg (by fin_cases a <;> decide)]
  have hat : ∀ (k : Fin 3) (q : S64x10x10x3.Idx), q = ix4 b c i k → inds x q
      = BitVec.ofNat 32 (![b.val, c.val, (pos (mag (row x b)) i.val).val] k) := by
    rintro k q rfl
    fin_cases k
    · exact (piece _ _ b c i 0 part0 (by show (0 : ℕ) < 3; decide) rfl rfl).trans (inds_row b c i)
    · exact (piece _ _ b c i 1 part1 (by show (1 : ℕ) < 3; decide) rfl rfl).trans (inds_conf b c i)
    · exact (piece _ _ b c i 2 (part2 x) (by show (2 : ℕ) < 3; decide) rfl rfl).trans (inds_lane x hs b c i)
  have h0 : ScatterDims.start scatter_S64x10x32768_S64x10x10x3_S64x10x10_n_012_012_3 (ix3 b c i) (inds x) 0 = b.val := by
    unfold ScatterDims.start
    rw [dif_pos (by decide), hat 0 _ (by funext a; fin_cases a <;> rfl)]
    exact StableHlo.Predicate.toInt_ofNat_small _ (by show b.val < _; omega)
  have h1 : ScatterDims.start scatter_S64x10x32768_S64x10x10x3_S64x10x10_n_012_012_3 (ix3 b c i) (inds x) 1 = c.val := by
    unfold ScatterDims.start
    rw [dif_pos (by decide), hat 1 _ (by funext a; fin_cases a <;> rfl)]
    exact StableHlo.Predicate.toInt_ofNat_small _ (by show c.val < _; omega)
  have h2 : ScatterDims.start scatter_S64x10x32768_S64x10x10x3_S64x10x10_n_012_012_3 (ix3 b c i) (inds x) 2
      = (pos (mag (row x b)) i.val).val := by
    unfold ScatterDims.start
    rw [dif_pos (by decide), hat 2 _ (by funext a; fin_cases a <;> rfl)]
    exact StableHlo.Predicate.toInt_ofNat_small _ (by show (pos (mag (row x b)) i.val).val < _; omega)
  constructor
  · intro h
    have e0 := h 0
    have e1 := h 1
    have e2 := h 2
    rw [hw, h0] at e0
    rw [hw, h1] at e1
    rw [hw, h2] at e2
    change (b.val : ℤ) + (0 : ℕ) = (b'.val : ℤ) at e0
    change (c.val : ℤ) + (0 : ℕ) = (c'.val : ℤ) at e1
    change ((pos (mag (row x b)) i.val).val : ℤ) + (0 : ℕ) = (j.val : ℤ) at e2
    exact ⟨Fin.ext (by omega), Fin.ext (by omega), Fin.ext (by omega)⟩
  · rintro ⟨rfl, rfl, rfl⟩ a
    rw [hw]
    fin_cases a
    · exact sumz _ _ h0
    · exact sumz _ _ h1
    · exact sumz _ _ h2

/-- The flips scattered over zeros. -/
abbrev scat : FVec Ideal S64x10x32768 .f32 := Host.scatter scatter_S64x10x32768_S64x10x10x3_S64x10x10_n_012_012_3 (fun _ b => b)
  (broadcastInDim S64x10x32768 ![] bcast_S_S64x10x32768 (constant (F := Ideal) S_ .f32 0x00000000#32)) (inds x) (upd x)

open Classical in
/-- The scattered array holds 1 where a configuration flips and 0 elsewhere. -/
theorem scat_apply (b : Fin 64) (c : Fin 10) (j : Fin 32768) :
    scat x (ix3 b c j) = if Flips (row x b) c.val j then (1 : EReal) else 0 := by
  by_cases h : ∃ i : Fin 10, pos (mag (row x b)) i.val = j
  · obtain ⟨i, hi⟩ := h
    have hne : ∀ i' : Fin 10, pos (mag (row x b)) i'.val = j → i' = i := fun i' e =>
      Fin.ext (pos_injective (mag (row x b)) (hs b) (by omega) (by omega) (e.trans hi.symm))
    have hf : Flips (row x b) c.val j ↔ (BitVec.ofNat 32 (pos (cost (row x b)) c.val).val).getLsbD i.val = true := by
      constructor
      · rintro ⟨i', e, hb⟩; rw [hne i' e] at hb; exact hb
      · exact fun hb => ⟨i, hi, hb⟩
    refine (scatter_set_hit _ _ _ _ _ (upd x (ix3 b c i)) (fun k hk => ?_) (ix3 b c i) ((lands x hs b b c c i j).2 ⟨rfl, rfl, hi⟩)).trans ?_
    · obtain ⟨b', c', i', rfl⟩ : ∃ b' c' i', k = ix3 b' c' i' := ⟨_, _, _, eq_ix3 k⟩
      obtain ⟨rfl, rfl, e⟩ := (lands x hs b' b c' c i' j).1 hk
      rw [hne i' e]
    · rw [upd_apply x hs]
      exact if_congr hf.symm rfl rfl
  · rw [if_neg fun ⟨i, e, _⟩ => h ⟨i, e⟩]
    refine (scatter_set_miss _ _ _ _ _ fun k hk => ?_).trans Ideal.ofBits_zero_f32
    obtain ⟨b', c', i', rfl⟩ : ∃ b' c' i', k = ix3 b' c' i' := ⟨_, _, _, eq_ix3 k⟩
    obtain ⟨rfl, rfl, e⟩ := (lands x hs b' b c' c i' j).1 hk
    exact h ⟨i', e⟩

/-! ## The configurations -/

/-- The base configuration, once for each of the ten. -/
abbrev v56 : FVec Ideal S64x10x32768 .f32 :=
  broadcastInDim S64x10x32768 ![0, 1, 2] bcast_S64x1x32768_S64x10x32768_0_1_2 (broadcastInDim S64x1x32768 ![0, 2] bcast_S64x32768_S64x1x32768_0_2
    (uitofp .f32 (cmpf .ogt x (broadcastInDim S64x32768 ![] bcast_S_S64x32768 (constant (F := Ideal) S_ .f32 0x00000000#32)))))

omit hs in
theorem v56_apply (b : Fin 64) (c : Fin 10) (j : Fin 32768) : v56 x (ix3 b c j) = base (row x b j) := by
  have hb : ∀ f : FVec Ideal S64x32768 .f32, broadcastInDim S64x10x32768 ![0, 1, 2] bcast_S64x1x32768_S64x10x32768_0_1_2
      (broadcastInDim S64x1x32768 ![0, 2] bcast_S64x32768_S64x1x32768_0_2 f) (ix3 b c j) = f (ix2 b j) :=
    fun f => congrArg f (funext fun a => by fin_cases a <;> rfl)
  refine (hb _).trans ?_
  show (((BitVec.ofBool (decide (FloatOps.ofBits (F := Ideal) .f32 0x00000000#32 < x (ix2 b j)))).toNat : ℝ) : EReal) = _
  rw [show FloatOps.ofBits (F := Ideal) .f32 0x00000000#32 = (0 : EReal) from Ideal.ofBits_zero_f32]
  unfold base row
  by_cases h : 0 < x (ix2 b j) <;> simp [h]

/-- The reference's configurations. -/
abbrev z : FVec Ideal S64x10x32768 .f32 :=
  select (cmpf .ogt (scat x) (broadcastInDim S64x10x32768 ![] bcast_S_S64x10x32768 (constant (F := Ideal) S_ .f32 0x00000000#32)))
    (subf (broadcastInDim S64x10x32768 ![] bcast_S_S64x10x32768 (constant (F := Ideal) S_ .f32 0x3F800000#32)) (v56 x)) (v56 x)

omit x hs in
/-- The choice between the base configuration's bits and the flipped ones, at one index. -/
theorem pick_apply (u v : FVec Ideal S64x10x32768 .f32) (i : S64x10x32768.Idx) :
    select (cmpf .ogt u (broadcastInDim S64x10x32768 ![] bcast_S_S64x10x32768 (constant (F := Ideal) S_ .f32 0x00000000#32)))
      (subf (broadcastInDim S64x10x32768 ![] bcast_S_S64x10x32768 (constant (F := Ideal) S_ .f32 0x3F800000#32)) v) v i
    = Scalar.select (Ideal.cmp .ogt (u i) (FloatOps.ofBits (F := Ideal) .f32 0x00000000#32))
      (FloatOps.ofBits (F := Ideal) .f32 0x3F800000#32 - v i) (v i) := rfl

theorem z_apply (b : Fin 64) (c : Fin 10) (j : Fin 32768) : z x (ix3 b c j) = conf (row x b) c.val j := by
  refine (pick_apply _ _ _).trans ?_
  rw [scat_apply x hs, v56_apply, show FloatOps.ofBits (F := Ideal) .f32 0x00000000#32 = (0 : EReal) from Ideal.ofBits_zero_f32,
    show FloatOps.ofBits (F := Ideal) .f32 0x3F800000#32 = (1 : EReal) from Ideal.ofBits_one_f32]
  unfold conf
  by_cases h : Flips (row x b) c.val j
  · rw [if_pos h, if_pos h]
    simp [Ideal.cmp, Scalar.select]
  · rw [if_neg h, if_neg h]
    simp [Ideal.cmp, Scalar.select]

end Cert.RefConf

end
-- ==== Proof.Equation.lean ====
/-
  The kernel's three results and the reference's are the same arrays, when every score is finite.
-/
module

public import proofs.«01_k».proof.Proof.KRun
public import proofs.«01_k».proof.Proof.RefSparse
public import proofs.«01_k».proof.Proof.RefConf
public import proofs.«01_k».proof.Pre_finite_scores

@[expose] public section

set_option maxRecDepth 16384

noncomputable section

namespace Cert.Equation

open Idealize.ShloMosaic Idealize.ShloMosaic.Tactic Cert.Rounds Cert.RoundOps Cert.Spec

/-- An array of scores. -/
abbrev Scores := FVec Ideal Cert.KernelIdeal.S64x32768 .f32

/-! ## What finite scores give -/

/-- The precondition says that every absolute score is below `+∞`. -/
theorem mag_lt [Cert.Pre_finite_scores.Facts] (s : Scores) (h : Cert.Pre_finite_scores.fn (F := Ideal) s = fun _ => 1#1) (b : Fin 64)
    (k : Fin 32768) : mag (row s b) k < ⊤ := by
  have e : BitVec.ofBool (decide (max (s (ix2 b k)) (-s (ix2 b k)) < FloatOps.ofBits (F := Ideal) .f32 0x7F800000#32)) = 1#1 :=
    congrFun h (ix2 b k)
  rw [ofBits_top] at e
  exact of_decide_eq_true ((ofBool_one _).1 e)

/-- A finite number of the extended reals. -/
def Bounded (x : EReal) : Prop := ⊥ < x ∧ x < ⊤

theorem fin_mul {x y : EReal} (hx : Bounded x) (hy : Bounded y) : Bounded (x * y) := by
  lift x to ℝ using ⟨hx.2.ne, hx.1.ne'⟩
  lift y to ℝ using ⟨hy.2.ne, hy.1.ne'⟩
  rw [← EReal.coe_mul]
  exact ⟨EReal.bot_lt_coe _, EReal.coe_lt_top _⟩

theorem fin_add {x y : EReal} (hx : Bounded x) (hy : Bounded y) : Bounded (x + y) := by
  lift x to ℝ using ⟨hx.2.ne, hx.1.ne'⟩
  lift y to ℝ using ⟨hy.2.ne, hy.1.ne'⟩
  rw [← EReal.coe_add]
  exact ⟨EReal.bot_lt_coe _, EReal.coe_lt_top _⟩

theorem fin_zero : Bounded 0 := ⟨EReal.bot_lt_zero, EReal.zero_lt_top⟩
theorem fin_one : Bounded 1 := ⟨EReal.bot_lt_coe 1, EReal.coe_lt_top 1⟩

theorem fin_sub {x y : EReal} (hx : Bounded x) (hy : Bounded y) : Bounded (x - y) := by
  lift x to ℝ using ⟨hx.2.ne, hx.1.ne'⟩
  lift y to ℝ using ⟨hy.2.ne, hy.1.ne'⟩
  rw [← EReal.coe_sub]
  exact ⟨EReal.bot_lt_coe _, EReal.coe_lt_top _⟩

theorem fin_conf (s : Fin 32768 → EReal) (c : ℕ) (j : Fin 32768) : Bounded (conf s c j) := by
  have hb : Bounded (base (s j)) := by
    unfold base
    split
    · exact fin_one
    · exact fin_zero
  unfold conf
  split
  · exact fin_sub fin_one hb
  · exact hb

theorem fin_score (s : Fin 32768 → EReal) (j : Fin 32768) (h : mag s j < ⊤) : Bounded (s j) := by
  have h1 : s j < ⊤ := lt_of_le_of_lt (le_max_left _ _) h
  have h2 : -s j < ⊤ := lt_of_le_of_lt (le_max_right _ _) h
  rw [EReal.neg_lt_comm, EReal.neg_top] at h2
  exact ⟨h2, h1⟩

/-- The configurations' scores are finite. -/
theorem fin_dots (s : Scores) (hs : ∀ b k, mag (row s b) k < ⊤) (j : Cert.KernelIdeal.S64x10.Idx) : Bounded (KRun.dots s j) := by
  unfold KRun.dots
  rw [show Host.dotGeneral (F := Ideal) (φ₁ := .f32) (φ₂ := .f32) Cert.KernelIdeal.dot_S64x10x32768_S64x32768_S64x10_2_1_1_n_0_0 none
    (KRun.confs s) s j = _ from Ideal.dotGeneral_apply _ _ _ _ _ _]
  refine Finset.sum_induction _ Bounded (fun a b => fin_add) fin_zero fun k _ => fin_mul (fin_conf _ _ _) ?_
  generalize DotDims.rhsIdx _ j k = q
  obtain ⟨b, l, rfl⟩ : ∃ b l, q = ix2 b l := ⟨_, _, eq_ix2 q⟩
  exact fin_score (row s b) l (hs b l)

/-! ## The reference's results -/

variable (V0 : Valuation Cert.ReferenceIdeal.τ Cert.ReferenceIdeal.sig (Elt Ideal))

/-- The reference's scores. -/
abbrev scores : Scores := V0 (Proc.devRef .tc Cert.ReferenceIdeal.main_arg0)

/-- The reference's configurations are the kernel's. -/
theorem z_eq (s : Scores) (hs : ∀ b k, mag (row s b) k < ⊤) : RefConf.z s = KRun.confs s := by
  funext i
  obtain ⟨b, c, j, rfl⟩ : ∃ b c j, i = ix3 b c j := ⟨_, _, _, eq_ix3 i⟩
  exact RefConf.z_apply s hs b c j

theorem d_def : RefSparse.d V0 = Host.dotGeneral (F := Ideal) (φ₁ := .f32) (φ₂ := .f32)
    Cert.ReferenceIdeal.dot_S64x10x32768_S64x32768_S64x10_2_1_1_n_0_0 none (RefConf.z (scores V0)) (scores V0) := by
  sl_kernel_rfl

/-- The configurations' scores of the reference are the kernel's. -/
theorem d_eq (hs : ∀ b k, mag (row (scores V0) b) k < ⊤) : RefSparse.d V0 = KRun.dots (scores V0) := by
  rw [d_def, z_eq _ hs]
  rfl

variable (hs : ∀ b k, mag (row (scores V0) b) k < ⊤)
include hs

theorem fin_d (b : Fin 64) (k : Fin 10) : Bounded (row (RefSparse.d V0) b k) := by
  rw [d_eq V0 hs]
  exact fin_dots _ hs _

/-- The distributions agree. -/
theorem res_eq : RefSparse.res V0 = Cert.KernelIdeal.Gen.out2_1 (KRun.dots (scores V0)) := by
  funext i
  obtain ⟨b, k, rfl⟩ : ∃ b k, i = ix2 b k := ⟨_, _, eq_ix2 i⟩
  rw [RefSparse.res_apply V0 (fun b k => (fin_d V0 hs b k).1) (fun b k => (fin_d V0 hs b k).2), d_eq V0 hs]
  exact (Sparsemax.out2_1_apply _ (fun b k => (fin_dots _ hs _).1) (fun b k => (fin_dots _ hs _).2) b k).symm

/-- The entropies agree. -/
theorem ent_eq (x : FVec Ideal Cert.ReferenceIdeal.S640 .f32)
    (hx : x = shapeCast Cert.ReferenceIdeal.S640 (RefSparse.res V0) Cert.ReferenceIdeal.Gen.facts.shapeCasts_S64x10_S640) :
    Host.divf (F := Ideal) (Host.negf (Host.reduceAdd (RefSparse.terms x) (constant Cert.ReferenceIdeal.S_ .f32 0x00000000#32)
      Cert.ReferenceIdeal.Gen.facts.reducesTo_S640_S_d0 Cert.ReferenceIdeal.Gen.facts.h_S_)) (constant Cert.ReferenceIdeal.S_ .f32 0x42800000#32)
    = shapeCast Cert.KernelIdeal.S_ (Cert.KernelIdeal.Gen.out2_2 (KRun.dots (scores V0))) Cert.KernelIdeal.Gen.facts.shapeCasts_S1x1_S_ := by
  funext y
  refine (RefSparse.ent_apply V0 (fun b k => (fin_d V0 hs b k).1) (fun b k => (fin_d V0 hs b k).2) x hx y).trans ?_
  rw [d_eq V0 hs]
  exact (Sparsemax.out2_2_apply _ (fun b k => (fin_dots _ hs _).1) (fun b k => (fin_dots _ hs _).2) _).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.Tactic Idealize.ShloMosaic.StableHlo Idealize.SL.Sem

/-- What the precondition states about its shapes. -/
theorem preFacts : Cert.Pre_finite_scores.Facts := ⟨by decide⟩

/-- The reference runs, leaves its argument unchanged and ends with every semaphore at zero. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- On finite scores the kernel's three results are the reference's. -/
theorem algebraic : algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre harg
  haveI := preFacts
  have hs : ∀ (c : Dev Cert.KernelIdeal.nD) b k, Spec.mag (RoundOps.row (KRun.score m c) b) k < ⊤ :=
    fun c b k => Equation.mag_lt _ (hpre c) b k
  have hs' : ∀ (c : Dev Cert.KernelIdeal.nD) b k, Spec.mag (RoundOps.row (Equation.scores (launchContents m' c)) b) k < ⊤ := by
    intro c
    rw [show Equation.scores (launchContents m' c) = KRun.score m c from harg c]
    exact hs c
  refine ⟨fun c => KRun.confs (KRun.score m c), fun c => Cert.KernelIdeal.Gen.out2_1 (KRun.dots (KRun.score m c)),
    fun c => shapeCast Cert.KernelIdeal.S_ (Cert.KernelIdeal.Gen.out2_2 (KRun.dots (KRun.score m c))) Cert.KernelIdeal.Gen.facts.shapeCasts_S1x1_S_,
    ?_, ?_⟩
  · refine (θ_run Cert.KernelIdeal.defs _ _).mono (fun r h c => ⟨?_, ?_, ?_, ?_⟩) (KRun.launched m g)
    · exact (h c Cert.KernelIdeal.main_v2 (by decide)).trans (KRun.W5_v2 m g c (hs c))
    · exact (h c Cert.KernelIdeal.main_v4_0 (by decide)).trans (KRun.W5_dist m g c (hs c))
    · exact (h c Cert.KernelIdeal.main_v5 (by decide)).trans (KRun.W5_ent m g c (hs c))
    · exact (h c Cert.KernelIdeal.main_arg0 (by decide)).trans (Cert.KernelIdeal.Gen.W5_main_arg0 m g c)
  · refine (θ_run Cert.ReferenceIdeal.defs _ _).mono (fun r h c => ⟨?_, ?_, ?_, (h c).2.2.2⟩) (Cert.ReferenceIdeal.Value.run (F := Ideal) m' g')
    · have e : Equation.scores (launchContents m' c) = KRun.score m c := harg c
      refine (h c).1.trans (Eq.trans (b := RefConf.z (Equation.scores (launchContents m' c))) (by sl_kernel_rfl) ?_)
      exact (Equation.z_eq _ (hs' c)).trans (congrArg KRun.confs e)
    · have e : Equation.scores (launchContents m' c) = KRun.score m c := harg c
      refine (h c).2.1.trans (Eq.trans (b := RefSparse.res (launchContents m' c)) (by sl_kernel_rfl) ?_)
      exact (Equation.res_eq _ (hs' c)).trans (congrArg (fun s => Cert.KernelIdeal.Gen.out2_1 (KRun.dots s)) e)
    · have e : Equation.scores (launchContents m' c) = KRun.score m c := harg c
      refine (h c).2.2.1.trans (Eq.trans ?_ ((Equation.ent_eq _ (hs' c) (Cert.ReferenceIdeal.Value.res_main_v91 (launchContents m' c)) (by sl_kernel_rfl)).trans
        (congrArg (fun s => shapeCast Cert.KernelIdeal.S_ (Cert.KernelIdeal.Gen.out2_2 (KRun.dots s)) Cert.KernelIdeal.Gen.facts.shapeCasts_S1x1_S_) e)))
      sl_kernel_rfl

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => referenceFrame m ρ, fun m ρ _ => referenceFrame m ρ, trivial, algebraic⟩

end Cert.Proof

end
